-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays_below_infinity [hPre_decays_below_infinity : Cert.Pre_decays_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_decays_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays_below_infinity [hPre_decays_below_infinity : Cert.Pre_decays_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_decays_below_infinity [hKernelIdeal : Cert.KernelIdeal.Facts] [hPre_decays_below_infinity : Cert.Pre_decays_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_decays_below_infinity [hReferenceIdeal : Cert.ReferenceIdeal.Facts] [hPre_decays_below_infinity : Cert.Pre_decays_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_decays_below_infinity [hKernelIdeal : Cert.KernelIdeal.Facts] [hReferenceIdeal : Cert.ReferenceIdeal.Facts] [hPre_decays_below_infinity : Cert.Pre_decays_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v14)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v8)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v8) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v52) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hOutproj : Cert.Outproj.Facts) (hOutprojIdeal : Cert.OutprojIdeal.Facts) (hOutprojRefIdeal : Cert.OutprojRefIdeal.Facts) (hPre_decays_below_infinity : Cert.Pre_decays_below_infinity.Facts),
    quiescent_Kernel (hKernel := hKernel)
    ∧ quiescent_KernelIdeal (hKernelIdeal := hKernelIdeal)
    ∧ quiescent_KernelIdeal_pre_decays_below_infinity (hKernelIdeal := hKernelIdeal) (hPre_decays_below_infinity := hPre_decays_below_infinity)
    ∧ quiescent_ReferenceIdeal (hReferenceIdeal := hReferenceIdeal)
    ∧ quiescent_ReferenceIdeal_pre_decays_below_infinity (hReferenceIdeal := hReferenceIdeal) (hPre_decays_below_infinity := hPre_decays_below_infinity)
    ∧ quiescent_Ffn (hFfn := hFfn)
    ∧ quiescent_FfnIdeal (hFfnIdeal := hFfnIdeal)
    ∧ quiescent_FfnRefIdeal (hFfnRefIdeal := hFfnRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Kernel_KernelIdeal
    ∧ algebraic_KernelIdeal_ReferenceIdeal_pre_decays_below_infinity (hKernelIdeal := hKernelIdeal) (hReferenceIdeal := hReferenceIdeal) (hPre_decays_below_infinity := hPre_decays_below_infinity)
    ∧ preserves_Ffn_FfnIdeal
    ∧ algebraic_FfnIdeal_FfnRefIdeal (hFfnIdeal := hFfnIdeal) (hFfnRefIdeal := hFfnRefIdeal)
    ∧ preserves_Outproj_OutprojIdeal
    ∧ algebraic_OutprojIdeal_OutprojRefIdeal (hOutprojIdeal := hOutprojIdeal) (hOutprojRefIdeal := hOutprojRefIdeal)
-- ==== Pre_decays_below_infinity.lean ====
abbrev S576x5120 : Shape := ⟨2, ![576, 5120]⟩
abbrev S576x2048 : Shape := ⟨2, ![576, 2048]⟩
abbrev S128x8x128x128 : Shape := ⟨4, ![128, 8, 128, 128]⟩
abbrev S128x2x1024 : Shape := ⟨3, ![128, 2, 1024]⟩
abbrev S1024 : Shape := ⟨1, ![1024]⟩
abbrev S3x1024 : Shape := ⟨2, ![3, 1024]⟩
abbrev S512x1024 : Shape := ⟨2, ![512, 1024]⟩
abbrev S_ : Shape := ⟨0, ![]⟩

class Facts : Prop where
  slices_S576x2048_S512x1024_0_0 : S576x2048.Slices ![0, 0] S512x1024
  bcast_S_S512x1024 : S_.BroadcastsInDim S512x1024 (![] : Fin 0 → Fin S512x1024.rank)

variable [Facts]

def fn {F : FTy → Type} [FloatOps F] (main_arg0 : FVec F S576x5120 .bf16) (main_arg1 : FVec F S576x2048 .f32) (main_arg2 : FVec F S128x8x128x128 .f32) (main_arg3 : FVec F S128x2x1024 .f32) (main_arg4 : FVec F S1024 .f32) (main_arg5 : FVec F S3x1024 .f32) : IVec S512x1024 1 :=
  let main_v0 : FVec F S512x1024 .f32 := (extractStridedSlice S512x1024 ![0, 0] · slices_S576x2048_S512x1024_0_0) main_arg1
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  main_v2
-- ==== Kernel.lean ====
abbrev S576x5120 : Shape := ⟨2, ![576, 5120]⟩
abbrev S576x2048 : Shape := ⟨2, ![576, 2048]⟩
abbrev S128x8x128x128 : Shape := ⟨4, ![128, 8, 128, 128]⟩
abbrev S128x2x1024 : Shape := ⟨3, ![128, 2, 1024]⟩
abbrev S1024 : Shape := ⟨1, ![1024]⟩
abbrev S3x1024 : Shape := ⟨2, ![3, 1024]⟩
abbrev S192x192 : Shape := ⟨2, ![192, 192]⟩
abbrev S64x64 : Shape := ⟨2, ![64, 64]⟩
abbrev S1x1024 : Shape := ⟨2, ![1, 1024]⟩
abbrev S512x2048 : Shape := ⟨2, ![512, 2048]⟩
abbrev S64x5120 : Shape := ⟨2, ![64, 5120]⟩
abbrev S64x2048 : Shape := ⟨2, ![64, 2048]⟩
abbrev S16x8x128x128 : Shape := ⟨4, ![16, 8, 128, 128]⟩
abbrev S16x2x1024 : Shape := ⟨3, ![16, 2, 1024]⟩
abbrev S128x1024 : Shape := ⟨2, ![128, 1024]⟩
abbrev S64x1024 : Shape := ⟨2, ![64, 1024]⟩
abbrev S1x2x1024 : Shape := ⟨3, ![1, 2, 1024]⟩
abbrev S2x1024 : Shape := ⟨2, ![2, 1024]⟩
abbrev S4x1024 : Shape := ⟨2, ![4, 1024]⟩
abbrev S192x1024 : Shape := ⟨2, ![192, 1024]⟩
abbrev S16x128 : Shape := ⟨2, ![16, 128]⟩
abbrev S64x128 : Shape := ⟨2, ![64, 128]⟩
abbrev S16x256 : Shape := ⟨2, ![16, 256]⟩
abbrev S32x256 : Shape := ⟨2, ![32, 256]⟩
abbrev S1x1x128x128 : Shape := ⟨4, ![1, 1, 128, 128]⟩
abbrev S128x128 : Shape := ⟨2, ![128, 128]⟩
abbrev S1x128 : Shape := ⟨2, ![1, 128]⟩
abbrev S32x128 : Shape := ⟨2, ![32, 128]⟩
abbrev S128x256 : Shape := ⟨2, ![128, 256]⟩
abbrev S16 : Shape := ⟨1, ![16]⟩
abbrev S16x1 : Shape := ⟨2, ![16, 1]⟩

abbrev nBuf : Space → Nat
  | .hbm => 12
  | .vmem => 20
  | .smem => 0
  | _ => 0

abbrev bufTy : (tb : Table) → Fin (tcTables nBuf tb) → BufTy
  | .hbm, ⟨0, _⟩ => ⟨S576x5120, .bf16⟩
  | .hbm, ⟨1, _⟩ => ⟨S576x2048, .f32⟩
  | .hbm, ⟨2, _⟩ => ⟨S128x8x128x128, .f32⟩
  | .hbm, ⟨3, _⟩ => ⟨S128x2x1024, .f32⟩
  | .hbm, ⟨4, _⟩ => ⟨S1024, .f32⟩
  | .hbm, ⟨5, _⟩ => ⟨S3x1024, .f32⟩
  | .hbm, ⟨6, _⟩ => ⟨S192x192, .bf16⟩
  | .hbm, ⟨7, _⟩ => ⟨S64x64, .f32⟩
  | .hbm, ⟨8, _⟩ => ⟨S1x1024, .f32⟩
  | .hbm, ⟨9, _⟩ => ⟨S512x2048, .bf16⟩
  | .hbm, ⟨10, _⟩ => ⟨S128x8x128x128, .f32⟩
  | .hbm, ⟨11, _⟩ => ⟨S128x2x1024, .f32⟩
  | .local _ .vmem, ⟨0, _⟩ => ⟨S64x5120, .bf16⟩
  | .local _ .vmem, ⟨1, _⟩ => ⟨S64x5120, .bf16⟩
  | .local _ .vmem, ⟨2, _⟩ => ⟨S64x2048, .f32⟩
  | .local _ .vmem, ⟨3, _⟩ => ⟨S64x2048, .f32⟩
  | .local _ .vmem, ⟨4, _⟩ => ⟨S16x8x128x128, .f32⟩
  | .local _ .vmem, ⟨5, _⟩ => ⟨S16x8x128x128, .f32⟩
  | .local _ .vmem, ⟨6, _⟩ => ⟨S16x2x1024, .f32⟩
  | .local _ .vmem, ⟨7, _⟩ => ⟨S16x2x1024, .f32⟩
  | .local _ .vmem, ⟨8, _⟩ => ⟨S1x1024, .f32⟩
  | .local _ .vmem, ⟨9, _⟩ => ⟨S3x1024, .f32⟩
  | .local _ .vmem, ⟨10, _⟩ => ⟨S192x192, .bf16⟩
  | .local _ .vmem, ⟨11, _⟩ => ⟨S64x64, .f32⟩
  | .local _ .vmem, ⟨12, _⟩ => ⟨S64x2048, .bf16⟩
  | .local _ .vmem, ⟨13, _⟩ => ⟨S64x2048, .bf16⟩
  | .local _ .vmem, ⟨14, _⟩ => ⟨S16x8x128x128, .f32⟩
  | .local _ .vmem, ⟨15, _⟩ => ⟨S16x8x128x128, .f32⟩
  | .local _ .vmem, ⟨16, _⟩ => ⟨S16x2x1024, .f32⟩
  | .local _ .vmem, ⟨17, _⟩ => ⟨S16x2x1024, .f32⟩
  | .local _ .vmem, ⟨18, _⟩ => ⟨S128x1024, .f32⟩
  | .local _ .vmem, ⟨19, _⟩ => ⟨S64x1024, .f32⟩
  | _, _ => ⟨S576x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S576x5120 : Shape := ⟨2, ![576, 5120]⟩
abbrev S576x2048 : Shape := ⟨2, ![576, 2048]⟩
abbrev S128x8x128x128 : Shape := ⟨4, ![128, 8, 128, 128]⟩
abbrev S128x2x1024 : Shape := ⟨3, ![128, 2, 1024]⟩
abbrev S1024 : Shape := ⟨1, ![1024]⟩
abbrev S3x1024 : Shape := ⟨2, ![3, 1024]⟩
abbrev S512x1024 : Shape := ⟨2, ![512, 1024]⟩
abbrev S128x4x8x128 : Shape := ⟨4, ![128, 4, 8, 128]⟩
abbrev S128x8x4x128 : Shape := ⟨4, ![128, 8, 4, 128]⟩
abbrev S_ : Shape := ⟨0, ![]⟩
abbrev S4x4 : Shape := ⟨2, ![4, 4]⟩
abbrev S128x8x1x128 : Shape := ⟨4, ![128, 8, 1, 128]⟩
abbrev S128x8x4x4 : Shape := ⟨4, ![128, 8, 4, 4]⟩
abbrev S128x8x128 : Shape := ⟨3, ![128, 8, 128]⟩
abbrev S128x8x128x1 : Shape := ⟨4, ![128, 8, 128, 1]⟩
abbrev S128x8x4 : Shape := ⟨3, ![128, 8, 4]⟩
abbrev S128x8x4x1 : Shape := ⟨4, ![128, 8, 4, 1]⟩
abbrev S1x1024 : Shape := ⟨2, ![1, 1024]⟩
abbrev S128x4x1024 : Shape := ⟨3, ![128, 4, 1024]⟩
abbrev S128x6x1024 : Shape := ⟨3, ![128, 6, 1024]⟩
abbrev S1x1x1024 : Shape := ⟨3, ![1, 1, 1024]⟩
abbrev S512x2048 : Shape := ⟨2, ![512, 2048]⟩

abbrev nBuf : Space → Nat
  | .hbm => 121
  | .vmem => 0
  | .smem => 0
  | _ => 0

abbrev bufTy : (tb : Table) → Fin (tcTables nBuf tb) → BufTy
  | .hbm, ⟨0, _⟩ => ⟨S576x5120, .bf16⟩
  | .hbm, ⟨1, _⟩ => ⟨S576x2048, .f32⟩
  | .hbm, ⟨2, _⟩ => ⟨S128x8x128x128, .f32⟩
  | .hbm, ⟨3, _⟩ => ⟨S128x2x1024, .f32⟩
  | .hbm, ⟨4, _⟩ => ⟨S1024, .f32⟩
  | .hbm, ⟨5, _⟩ => ⟨S3x1024, .f32⟩
  | .hbm, ⟨6, _⟩ => ⟨S512x1024, .bf16⟩
  | .hbm, ⟨7, _⟩ => ⟨S512x1024, .f32⟩
  | .hbm, ⟨8, _⟩ => ⟨S128x4x8x128, .f32⟩
  | .hbm, ⟨9, _⟩ => ⟨S128x8x4x128, .f32⟩
  | .hbm, ⟨10, _⟩ => ⟨S512x1024, .bf16⟩
  | .hbm, ⟨11, _⟩ => ⟨S512x1024, .f32⟩
  | .hbm, ⟨12, _⟩ => ⟨S128x4x8x128, .f32⟩
  | .hbm, ⟨13, _⟩ => ⟨S128x8x4x128, .f32⟩
  | .hbm, ⟨14, _⟩ => ⟨S512x1024, .bf16⟩
  | .hbm, ⟨15, _⟩ => ⟨S512x1024, .f32⟩
  | .hbm, ⟨16, _⟩ => ⟨S128x4x8x128, .f32⟩
  | .hbm, ⟨17, _⟩ => ⟨S128x8x4x128, .f32⟩
  | .hbm, ⟨18, _⟩ => ⟨S512x1024, .f32⟩
  | .hbm, ⟨19, _⟩ => ⟨S128x4x8x128, .f32⟩
  | .hbm, ⟨20, _⟩ => ⟨S128x8x4x128, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .f32⟩
  | .hbm, ⟨26, _⟩ => ⟨S_, .i1⟩
  | .hbm, ⟨27, _⟩ => ⟨S4x4, .i1⟩
  | .hbm, ⟨28, _⟩ => ⟨S4x4, .i32⟩
  | .hbm, ⟨29, _⟩ => ⟨S_, .i32⟩
  | .hbm, ⟨30, _⟩ => ⟨S4x4, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S_, .i1⟩
  | .hbm, ⟨35, _⟩ => ⟨S4x4, .i1⟩
  | .hbm, ⟨36, _⟩ => ⟨S4x4, .i1⟩
  | .hbm, ⟨37, _⟩ => ⟨S_, .f32⟩
  | .hbm, ⟨38, _⟩ => ⟨S_, .f32⟩
  | .hbm, ⟨39, _⟩ => ⟨S128x8x4x128, .f32⟩
  | .hbm, ⟨40, _⟩ => ⟨S128x8x1x128, .f32⟩
  | .hbm, ⟨41, _⟩ => ⟨S128x8x1x128, .f32⟩
  | .hbm, ⟨42, _⟩ => ⟨S128x8x4x128, .f32⟩
  | .hbm, ⟨43, _⟩ => ⟨S128x8x4x128, .f32⟩
  | .hbm, ⟨44, _⟩ => ⟨S128x8x4x128, .f32⟩
  | .hbm, ⟨45, _⟩ => ⟨S128x8x4x128, .f32⟩
  | .hbm, ⟨46, _⟩ => ⟨S128x8x4x128, .f32⟩
  | .hbm, ⟨47, _⟩ => ⟨S128x8x4x128, .f32⟩
  | .hbm, ⟨48, _⟩ => ⟨S128x8x4x128, .f32⟩
  | .hbm, ⟨49, _⟩ => ⟨S128x8x4x128, .f32⟩
  | .hbm, ⟨50, _⟩ => ⟨S128x8x4x4, .f32⟩
  | .hbm, ⟨51, _⟩ => ⟨S_, .f32⟩
  | .hbm, ⟨52, _⟩ => ⟨S_, .f32⟩
  | .hbm, ⟨53, _⟩ => ⟨S128x8x4x4, .i1⟩
  | .hbm, ⟨54, _⟩ => ⟨S128x8x4x4, .f32⟩
  | .hbm, ⟨55, _⟩ => ⟨S128x8x4x4, .f32⟩
  | .hbm, ⟨56, _⟩ => ⟨S128x8x4x128, .f32⟩
  | .hbm, ⟨57, _⟩ => ⟨S128x8x4x128, .f32⟩
  | .hbm, ⟨58, _⟩ => ⟨S128x8x4x128, .f32⟩
  | .hbm, ⟨59, _⟩ => ⟨S128x8x4x128, .f32⟩
  | .hbm, ⟨60, _⟩ => ⟨S128x8x4x128, .f32⟩
  | .hbm, ⟨61, _⟩ => ⟨S128x8x128, .f32⟩
  | .hbm, ⟨62, _⟩ => ⟨S128x8x128x1, .f32⟩
  | .hbm, ⟨63, _⟩ => ⟨S128x8x128x1, .f32⟩
  | .hbm, ⟨64, _⟩ => ⟨S128x8x128x128, .f32⟩
  | .hbm, ⟨65, _⟩ => ⟨S128x8x128x128, .f32⟩
  | .hbm, ⟨66, _⟩ => ⟨S128x8x4x128, .f32⟩
  | .hbm, ⟨67, _⟩ => ⟨S128x8x4x128, .f32⟩
  | .hbm, ⟨68, _⟩ => ⟨S128x8x4x128, .f32⟩
  | .hbm, ⟨69, _⟩ => ⟨S128x8x4x128, .f32⟩
  | .hbm, ⟨70, _⟩ => ⟨S128x8x128x128, .f32⟩
  | .hbm, ⟨71, _⟩ => ⟨S128x8x128x128, .f32⟩
  | .hbm, ⟨72, _⟩ => ⟨S128x8x4x128, .f32⟩
  | .hbm, ⟨73, _⟩ => ⟨S_, .f32⟩
  | .hbm, ⟨74, _⟩ => ⟨S128x8x4, .f32⟩
  | .hbm, ⟨75, _⟩ => ⟨S128x8x4x1, .f32⟩
  | .hbm, ⟨76, _⟩ => ⟨S_, .f32⟩
  | .hbm, ⟨77, _⟩ => ⟨S128x8x4x1, .f32⟩
  | .hbm, ⟨78, _⟩ => ⟨S128x8x4x1, .f32⟩
  | .hbm, ⟨79, _⟩ => ⟨S_, .f32⟩
  | .hbm, ⟨80, _⟩ => ⟨S128x8x4x1, .f32⟩
  | .hbm, ⟨81, _⟩ => ⟨S128x8x4x1, .f32⟩
  | .hbm, ⟨82, _⟩ => ⟨S128x8x4x1, .f32⟩
  | .hbm, ⟨83, _⟩ => ⟨S128x8x4x128, .f32⟩
  | .hbm, ⟨84, _⟩ => ⟨S128x8x4x128, .f32⟩
  | .hbm, ⟨85, _⟩ => ⟨S128x4x8x128, .f32⟩
  | .hbm, ⟨86, _⟩ => ⟨S512x1024, .f32⟩
  | .hbm, ⟨87, _⟩ => ⟨S1x1024, .f32⟩
  | .hbm, ⟨88, _⟩ => ⟨S512x1024, .f32⟩
  | .hbm, ⟨89, _⟩ => ⟨S512x1024, .f32⟩
  | .hbm, ⟨90, _⟩ => ⟨S512x1024, .f32⟩
  | .hbm, ⟨91, _⟩ => ⟨S128x4x1024, .f32⟩
  | .hbm, ⟨92, _⟩ => ⟨S128x6x1024, .f32⟩
  | .hbm, ⟨93, _⟩ => ⟨S1x1024, .f32⟩
  | .hbm, ⟨94, _⟩ => ⟨S1024, .f32⟩
  | .hbm, ⟨95, _⟩ => ⟨S128x4x1024, .f32⟩
  | .hbm, ⟨96, _⟩ => ⟨S1x1x1024, .f32⟩
  | .hbm, ⟨97, _⟩ => ⟨S128x4x1024, .f32⟩
  | .hbm, ⟨98, _⟩ => ⟨S128x4x1024, .f32⟩
  | .hbm, ⟨99, _⟩ => ⟨S_, .f32⟩
  | .hbm, ⟨100, _⟩ => ⟨S128x4x1024, .f32⟩
  | .hbm, ⟨101, _⟩ => ⟨S128x4x1024, .f32⟩
  | .hbm, ⟨102, _⟩ => ⟨S1x1024, .f32⟩
  | .hbm, ⟨103, _⟩ => ⟨S1024, .f32⟩
  | .hbm, ⟨104, _⟩ => ⟨S128x4x1024, .f32⟩
  | .hbm, ⟨105, _⟩ => ⟨S1x1x1024, .f32⟩
  | .hbm, ⟨106, _⟩ => ⟨S128x4x1024, .f32⟩
  | .hbm, ⟨107, _⟩ => ⟨S128x4x1024, .f32⟩
  | .hbm, ⟨108, _⟩ => ⟨S128x4x1024, .f32⟩
  | .hbm, ⟨109, _⟩ => ⟨S1x1024, .f32⟩
  | .hbm, ⟨110, _⟩ => ⟨S1024, .f32⟩
  | .hbm, ⟨111, _⟩ => ⟨S128x4x1024, .f32⟩
  | .hbm, ⟨112, _⟩ => ⟨S1x1x1024, .f32⟩
  | .hbm, ⟨113, _⟩ => ⟨S128x4x1024, .f32⟩
  | .hbm, ⟨114, _⟩ => ⟨S128x4x1024, .f32⟩
  | .hbm, ⟨115, _⟩ => ⟨S128x4x1024, .f32⟩
  | .hbm, ⟨116, _⟩ => ⟨S512x1024, .f32⟩
  | .hbm, ⟨117, _⟩ => ⟨S512x1024, .f32⟩
  | .hbm, ⟨118, _⟩ => ⟨S512x2048, .f32⟩
  | .hbm, ⟨119, _⟩ => ⟨S512x2048, .bf16⟩
  | .hbm, ⟨120, _⟩ => ⟨S128x2x1024, .f32⟩
  | _, _ => ⟨S576x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v21 : Ref sig .tc := ⟨.hbm, 36, rfl⟩
abbrev main_call1_call0_cst : Ref sig .tc := ⟨.hbm, 37, rfl⟩
abbrev main_call1_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_0 : Ref sig .tc := ⟨.hbm, 73, rfl⟩
abbrev main_v52 : Ref sig .tc := ⟨.hbm, 74, rfl⟩
abbrev main_v53 : Ref sig .tc := ⟨.hbm, 75, rfl⟩
abbrev main_cst_1 : Ref sig .tc := ⟨.hbm, 76, rfl⟩
abbrev main_v54 : Ref sig .tc := ⟨.hbm, 77, rfl⟩
abbrev main_v55 : Ref sig .tc := ⟨.hbm, 78, rfl⟩
abbrev main_cst_2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_3 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S2048x11x512 : Shape := ⟨3, ![2048, 11, 512]⟩
abbrev S_ : Shape := ⟨0, ![]⟩
abbrev S2048x11x640 : Shape := ⟨3, ![2048, 11, 640]⟩
abbrev S2048x7040 : Shape := ⟨2, ![2048, 7040]⟩
abbrev S5632x1x2048 : Shape := ⟨3, ![5632, 1, 2048]⟩
abbrev S5632x1x2176 : Shape := ⟨3, ![5632, 1, 2176]⟩
abbrev S5632x2176 : Shape := ⟨2, ![5632, 2176]⟩
abbrev S1x2048 : Shape := ⟨2, ![1, 2048]⟩
abbrev S1024x2048 : Shape := ⟨2, ![1024, 2048]⟩
abbrev S2048x640 : Shape := ⟨2, ![2048, 640]⟩
abbrev S512x2176 : Shape := ⟨2, ![512, 2176]⟩
abbrev S2048x512 : Shape := ⟨2, ![2048, 512]⟩
abbrev S1024x512 : Shape := ⟨2, ![1024, 512]⟩
abbrev S512x2048 : Shape := ⟨2, ![512, 2048]⟩
abbrev S1024 : Shape := ⟨1, ![1024]⟩
abbrev S1024x1 : Shape := ⟨2, ![1024, 1]⟩

abbrev nBuf : Space → Nat
  | .hbm => 27
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S2048x5632, .bf16⟩
  | .hbm, ⟨7, _⟩ => ⟨S2048x11x512, .bf16⟩
  | .hbm, ⟨8, _⟩ => ⟨S_, .i32⟩
  | .hbm, ⟨9, _⟩ => ⟨S_, .bf16⟩
  | .hbm, ⟨10, _⟩ => ⟨S2048x11x640, .bf16⟩
  | .hbm, ⟨11, _⟩ => ⟨S2048x7040, .bf16⟩
  | .hbm, ⟨12, _⟩ => ⟨S2048x5632, .bf16⟩
  | .hbm, ⟨13, _⟩ => ⟨S2048x11x512, .bf16⟩
  | .hbm, ⟨14, _⟩ => ⟨S_, .i32⟩
  | .hbm, ⟨15, _⟩ => ⟨S_, .bf16⟩
  | .hbm, ⟨16, _⟩ => ⟨S2048x11x640, .bf16⟩
  | .hbm, ⟨17, _⟩ => ⟨S2048x7040, .bf16⟩
  | .hbm, ⟨18, _⟩ => ⟨S5632x2048, .bf16⟩
  | .hbm, ⟨19, _⟩ => ⟨S5632x1x2048, .bf16⟩
  | .hbm, ⟨20, _⟩ => ⟨S_, .i32⟩
  | .hbm, ⟨21, _⟩ => ⟨S_, .bf16⟩
  | .hbm, ⟨22, _⟩ => ⟨S5632x1x2176, .bf16⟩
  | .hbm, ⟨23, _⟩ => ⟨S5632x2176, .bf16⟩
  | .hbm, ⟨24, _⟩ => ⟨S1x2048, .f32⟩
  | .hbm, ⟨25, _⟩ => ⟨S1x2048, .f32⟩
  | .hbm, ⟨26, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x640, .bf16⟩
  | .local _ .vmem, ⟨3, _⟩ => ⟨S2048x640, .bf16⟩
  | .local _ .vmem, ⟨4, _⟩ => ⟨S2048x640, .bf16⟩
  | .local _ .vmem, ⟨5, _⟩ => ⟨S2048x640, .bf16⟩
  | .local _ .vmem, ⟨6, _⟩ => ⟨S512x2176, .bf16⟩
  | .local _ .vmem, ⟨7, _⟩ => ⟨S512x2176, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S1x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Outproj.lean ====
abbrev S8192x2048 : Shape := ⟨2, ![8192, 2048]⟩
abbrev S2048x2048 : Shape := ⟨2, ![2048, 2048]⟩
abbrev S2048 : Shape := ⟨1, ![2048]⟩
abbrev S2048x1x2048 : Shape := ⟨3, ![2048, 1, 2048]⟩
abbrev S_ : Shape := ⟨0, ![]⟩
abbrev S2048x1x2176 : Shape := ⟨3, ![2048, 1, 2176]⟩
abbrev S2048x2176 : Shape := ⟨2, ![2048, 2176]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S2048x1x2048, .bf16⟩
  | .hbm, ⟨9, _⟩ => ⟨S_, .i32⟩
  | .hbm, ⟨10, _⟩ => ⟨S_, .bf16⟩
  | .hbm, ⟨11, _⟩ => ⟨S2048x1x2176, .bf16⟩
  | .hbm, ⟨12, _⟩ => ⟨S2048x2176, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2176, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutprojRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x2048, .f32⟩
  | .hbm, ⟨64, _⟩ => ⟨S8192x2048, .f32⟩
  | .hbm, ⟨65, _⟩ => ⟨S1x2048, .f32⟩
  | .hbm, ⟨66, _⟩ => ⟨S8192x2048, .f32⟩
  | .hbm, ⟨67, _⟩ => ⟨S8192x2048, .f32⟩
  | .hbm, ⟨68, _⟩ => ⟨S1x2048, .f32⟩
  | .hbm, ⟨69, _⟩ => ⟨S8192x2048, .f32⟩
  | .hbm, ⟨70, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Proof.Ffn.Block.lean ====
module

public import proofs.«01_k».proof.Proof.Gen.FfnIdeal.Value
public import Idealize.ShloMosaic.Lib.Pipeline.ValueKit

/-!
# The feed-forward call, one grid point at a time

The grid has 8 × 11 points: eight blocks of 1024 rows, and for each of them eleven blocks of 512 hidden columns.
This module reads what each point is given, and what it adds to its block of the output.
-/

@[expose] public section

set_option maxRecDepth 16384

noncomputable section

namespace Cert.FfnIdeal.Mine

open Cert.FfnIdeal Cert.FfnIdeal.Gen Cert.FfnIdeal.Value Idealize.ShloMosaic Idealize.ShloMosaic.TcCoe Idealize.ShloMosaic.Tactic Idealize.SL.Sem
open Idealize.ShloMosaic.Pipeline (Dat)

/-- What hidden column `k` contributes to entry `(r, j)` of the feed-forward block. -/
def lane (H : Vec Ideal S8192x2048 .f32) (WG WU : Vec Ideal S2048x5632 .f32) (WD : Vec Ideal S5632x2048 .f32)
    (r : Fin 8192) (j : Fin 2048) (k : Fin 5632) : EReal :=
  ((∑ x : Fin 2048, H (ix2 r x) * WG (ix2 x k))
      * Ideal.div 1 (1 + Ideal.exp (-∑ x : Fin 2048, H (ix2 r x) * WG (ix2 x k)))
      * ∑ x : Fin 2048, H (ix2 r x) * WU (ix2 x k)) * WD (ix2 k j)

variable (m : (ℓ : Loc nD τ sig) → Buf (Elt Ideal) ℓ)

/-- Which block of each array a grid point is given. -/
theorem idx : ∀ t : Fin cfg0.N, win0_0.index t = ![t.val / 11, 0] ∧ win0_1.index t = ![0, t.val % 11]
    ∧ win0_2.index t = ![0, t.val % 11] ∧ win0_3.index t = ![t.val % 11, 0] ∧ win0_4.index t = ![0, 0]
    ∧ win0_5.index t = ![0, 0] ∧ win0_6.index t = ![t.val / 11, 0] ∧ t.val / 11 < 8 :=
  (by decide +kernel : ∀ t : Fin grid0.N, _)

/-- The row of the arrays that row `a` of the point's block is. -/
def row (t : Fin cfg0.N) (a : Fin 1024) : Fin 8192 := ⟨t.val / 11 * 1024 + a.val, by have := (idx t).2.2.2.2.2.2.2; omega⟩

/-- The hidden column that column `x` of the point's weight blocks is. -/
def col (t : Fin cfg0.N) (x : Fin 512) : Fin 5632 := ⟨t.val % 11 * 512 + x.val, by omega⟩

/-! ## The arrays the host prepares: the weights padded by 128 columns after every block, the two rows of the normalisation -/

theorem V_v12 (c : Dev nD) (i : S1x2048.Idx) : V m c main_v12 i = m ((c : Thread nD τ).loc main_arg4) (ix1 (i 1)) := by
  simp only [V, List.flatten_cons, List.flatten_nil, List.cons_append, List.nil_append, List.append_nil]
  after_results
  pointwise

theorem V_v13 (c : Dev nD) (i : S1x2048.Idx) : V m c main_v13 i = m ((c : Thread nD τ).loc main_arg5) (ix1 (i 1)) := by
  simp only [V, List.flatten_cons, List.flatten_nil, List.cons_append, List.nil_append, List.append_nil]
  after_results
  pointwise

theorem V_v3 (c : Dev nD) (a : Fin 2048) (b : Fin 7040) (h : b.val % 640 < 512) :
    V m c main_v3 (ix2 a b) = m ((c : Thread nD τ).loc main_arg1) (ix2 a ⟨b.val / 640 * 512 + b.val % 640, by omega⟩) := by
  simp only [V, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos ⟨by omega, h⟩]

theorem V_v7 (c : Dev nD) (a : Fin 2048) (b : Fin 7040) (h : b.val % 640 < 512) :
    V m c main_v7 (ix2 a b) = m ((c : Thread nD τ).loc main_arg2) (ix2 a ⟨b.val / 640 * 512 + b.val % 640, by omega⟩) := by
  simp only [V, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos ⟨by omega, h⟩]

theorem V_v11 (c : Dev nD) (a : Fin 5632) (b : Fin 2176) (h : b.val < 2048) :
    V m c main_v11 (ix2 a b) = m ((c : Thread nD τ).loc main_arg3) (ix2 a ⟨b.val, h⟩) := by
  simp only [V, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos h]

/-! ## The blocks a point is given -/

theorem rows_at (c : Dev nD) (t : Fin cfg0.N) (a : Fin 1024) (x : Fin 2048) :
    iblk m c 0 t (ix2 a x) = m ((c : Thread nD τ).loc main_arg0) (ix2 (row t a) x) := by
  blk_ext [iblk, V, idx t, row]

/-- Column `x` of the point's block of a padded 2048-row weight, the array being at `W`. -/
theorem wide_at (c : Dev nD) (t : Fin cfg0.N) (W : Buf (Elt Ideal) ((c : Thread nD τ).loc main_v3)) (a : Fin 2048) (x : Fin 512) :
    View.ld (((cfg0.win 1).blk t).view.read (Elt Ideal) W) (Rect.unit ![0, 0] ![2048, 512] inb_S2048x640_S2048x512_0_0) (ix2 a x)
      = W (ix2 a ⟨t.val % 11 * 640 + x.val, by omega⟩) := by
  refine congrArg W (?_ : ((cfg0.win 1).blk t).view.emb ((Rect.unit (s := S2048x640) ![0, 0] ![2048, 512] inb_S2048x640_S2048x512_0_0).emb (ix2 a x)) = _)
  blk_ext [idx t]

theorem wide_at' (c : Dev nD) (t : Fin cfg0.N) (W : Buf (Elt Ideal) ((c : Thread nD τ).loc main_v7)) (a : Fin 2048) (x : Fin 512) :
    View.ld (((cfg0.win 2).blk t).view.read (Elt Ideal) W) (Rect.unit ![0, 0] ![2048, 512] inb_S2048x640_S2048x512_0_0) (ix2 a x)
      = W (ix2 a ⟨t.val % 11 * 640 + x.val, by omega⟩) := by
  refine congrArg W (?_ : ((cfg0.win 2).blk t).view.emb ((Rect.unit (s := S2048x640) ![0, 0] ![2048, 512] inb_S2048x640_S2048x512_0_0).emb (ix2 a x)) = _)
  blk_ext [idx t]

/-- Row `x` of the point's block of the padded down projection, the array being at `W`. -/
theorem tall_at (c : Dev nD) (t : Fin cfg0.N) (W : Buf (Elt Ideal) ((c : Thread nD τ).loc main_v11)) (x : Fin 512) (b : Fin 2048) :
    View.ld (((cfg0.win 3).blk t).view.read (Elt Ideal) W) (Rect.unit ![0, 0] ![512, 2048] inb_S512x2176_S512x2048_0_0) (ix2 x b)
      = W (ix2 (col t x) ⟨b.val, by omega⟩) := by
  refine congrArg W (?_ : ((cfg0.win 3).blk t).view.emb ((Rect.unit (s := S512x2176) ![0, 0] ![512, 2048] inb_S512x2176_S512x2048_0_0).emb (ix2 x b)) = _)
  blk_ext [idx t, col]

/-- Where the padded columns hold the given ones. -/
theorem col_eq (t : Fin cfg0.N) (x : Fin 512) (b : Fin 7040) (hb : b.val = t.val % 11 * 640 + x.val) (h : _) :
    (⟨b.val / 640 * 512 + b.val % 640, h⟩ : Fin 5632) = col t x := by
  apply Fin.ext
  simp only [col]
  omega

theorem gate_at (c : Dev nD) (t : Fin cfg0.N) (a : Fin 2048) (x : Fin 512) :
    View.ld (iblk m c 1 t) (Rect.unit ![0, 0] ![2048, 512] inb_S2048x640_S2048x512_0_0) (ix2 a x)
      = m ((c : Thread nD τ).loc main_arg1) (ix2 a (col t x)) :=
  (wide_at c t (V m c main_v3) a x).trans ((V_v3 m c a _ (by dsimp only; omega)).trans
    (by rw [col_eq t x _ rfl]))

theorem up_at (c : Dev nD) (t : Fin cfg0.N) (a : Fin 2048) (x : Fin 512) :
    View.ld (iblk m c 2 t) (Rect.unit ![0, 0] ![2048, 512] inb_S2048x640_S2048x512_0_0) (ix2 a x)
      = m ((c : Thread nD τ).loc main_arg2) (ix2 a (col t x)) :=
  (wide_at' c t (V m c main_v7) a x).trans ((V_v7 m c a _ (by dsimp only; omega)).trans
    (by rw [col_eq t x _ rfl]))

theorem down_at (c : Dev nD) (t : Fin cfg0.N) (x : Fin 512) (b : Fin 2048) :
    View.ld (iblk m c 3 t) (Rect.unit ![0, 0] ![512, 2048] inb_S512x2176_S512x2048_0_0) (ix2 x b)
      = m ((c : Thread nD τ).loc main_arg3) (ix2 (col t x) b) :=
  (tall_at c t (V m c main_v11) x b).trans (V_v11 m c (col t x) _ b.isLt)

theorem scale_at (c : Dev nD) (t : Fin cfg0.N) (x : Fin 2048) :
    iblk m c 4 t (ix2 0 x) = m ((c : Thread nD τ).loc main_arg4) (ix1 x) := by
  refine Eq.trans (b := V m c main_v12 (ix2 0 x)) (by blk_ext [iblk, idx t]) ?_
  rw [V_v12]; rfl

theorem shift_at (c : Dev nD) (t : Fin cfg0.N) (x : Fin 2048) :
    iblk m c 5 t (ix2 0 x) = m ((c : Thread nD τ).loc main_arg5) (ix1 x) := by
  refine Eq.trans (b := V m c main_v13 (ix2 0 x)) (by blk_ext [iblk, idx t]) ?_
  rw [V_v13]; rfl

/-! ## What a point adds -/

/-- The residual a row block starts from. -/
theorem residual (v : Vec Ideal S1024x2048 .f32) (y : S1024x2048.Idx) :
    k0_pay2 (F := Ideal) v y = Ideal.ofBits .f32 0x3F9837F0#32 * v y := by
  pointwise [k0_pay2]

/-- The rows kept for the later points are the rows themselves. -/
theorem kept (v : Vec Ideal S1024x2048 .f32) : k0_pay1 (F := Ideal) v = v := by
  funext y
  pointwise [k0_pay1]

/-- One point adds its 512 hidden columns, over the rows `hb` of its block. -/
theorem part (c : Dev nD) (t : Fin cfg0.N) (hb : Vec Ideal S1024x2048 .bf16) (acc : Vec Ideal S1024x2048 .f32) (y : S1024x2048.Idx)
    (hhb : ∀ (a : Fin 1024) (x : Fin 2048), hb (ix2 a x) = m ((c : Thread nD τ).loc main_arg0) (ix2 (row t a) x)) :
    k0_pay3 (F := Ideal) hb (View.ld (iblk m c 1 t) (Rect.unit ![0, 0] ![2048, 512] inb_S2048x640_S2048x512_0_0))
        (View.ld (iblk m c 2 t) (Rect.unit ![0, 0] ![2048, 512] inb_S2048x640_S2048x512_0_0)) acc
        (View.ld (iblk m c 3 t) (Rect.unit ![0, 0] ![512, 2048] inb_S512x2176_S512x2048_0_0)) y
      = acc y + ∑ x : Fin 512, lane (m ((c : Thread nD τ).loc main_arg0)) (m ((c : Thread nD τ).loc main_arg1))
          (m ((c : Thread nD τ).loc main_arg2)) (m ((c : Thread nD τ).loc main_arg3)) (row t (y 0)) (y 1) (col t x) := by
  have hg := gate_at m c t
  have hu := up_at m c t
  have hd := down_at m c t
  generalize View.ld (iblk m c 1 t) (Rect.unit ![0, 0] ![2048, 512] inb_S2048x640_S2048x512_0_0) = wg at hg ⊢
  generalize View.ld (iblk m c 2 t) (Rect.unit ![0, 0] ![2048, 512] inb_S2048x640_S2048x512_0_0) = wu at hu ⊢
  generalize View.ld (iblk m c 3 t) (Rect.unit ![0, 0] ![512, 2048] inb_S512x2176_S512x2048_0_0) = wd at hd ⊢
  pointwise [k0_pay3]
  refine congrArg (acc y + ·) (Finset.sum_congr rfl fun x _ => ?_)
  have eg : ∀ z : Fin 2048, hb (ix2 (y 0) z) * wg (ix2 z x) = _ := fun z => congrArg₂ (· * ·) (hhb (y 0) z) (hg z x)
  have eu : ∀ z : Fin 2048, hb (ix2 (y 0) z) * wu (ix2 z x) = _ := fun z => congrArg₂ (· * ·) (hhb (y 0) z) (hu z x)
  unfold lane
  refine congrArg₂ (· * ·) (congrArg₂ (· * ·) (congrArg₂ (fun a b : EReal => a * Ideal.div 1 (1 + Ideal.exp b)) ?_ ?_) ?_) (hd x (y 1))
  · exact Finset.sum_congr rfl fun z _ => eg z
  · exact (zero_sub _).trans (congrArg (fun b : EReal => -b) (Finset.sum_congr rfl fun z _ => eg z))
  · exact Finset.sum_congr rfl fun z _ => eu z

end Cert.FfnIdeal.Mine

end
-- ==== Proof.Ffn.Sweep.lean ====
module

public import proofs.«01_k».proof.Proof.Ffn.Block

/-!
# The feed-forward call, over the grid

Eleven points in a row share one block of the output: the first starts it from the residual, each adds its 512 hidden
columns, and the last normalises the rows.
-/

@[expose] public section

set_option maxRecDepth 16384

noncomputable section

namespace Cert.FfnIdeal.Mine

open Cert.FfnIdeal Cert.FfnIdeal.Gen Cert.FfnIdeal.Value Idealize.ShloMosaic Idealize.ShloMosaic.TcCoe Idealize.ShloMosaic.Tactic Idealize.SL.Sem

variable (m : (ℓ : Loc nD τ sig) → Buf (Elt Ideal) ℓ)

/-- `lane` at a column given as a number, zero past the last column. -/
def laneN (c : Dev nD) (r : Fin 8192) (j : Fin 2048) (k : ℕ) : EReal :=
  if h : k < 5632 then lane (m ((c : Thread nD τ).loc main_arg0)) (m ((c : Thread nD τ).loc main_arg1))
    (m ((c : Thread nD τ).loc main_arg2)) (m ((c : Thread nD τ).loc main_arg3)) r j ⟨k, h⟩ else 0

theorem laneN_val (c : Dev nD) (r : Fin 8192) (j : Fin 2048) (k : Fin 5632) :
    laneN m c r j k.val = lane (m ((c : Thread nD τ).loc main_arg0)) (m ((c : Thread nD τ).loc main_arg1))
      (m ((c : Thread nD τ).loc main_arg2)) (m ((c : Thread nD τ).loc main_arg3)) r j k := by
  unfold laneN
  rw [dif_pos k.isLt]

/-- Entry `(r, j)` of the residual plus the first `s` blocks of hidden columns. -/
def upTo (c : Dev nD) (r : Fin 8192) (j : Fin 2048) (s : ℕ) : EReal :=
  Ideal.ofBits .f32 0x3F9837F0#32 * m ((c : Thread nD τ).loc main_arg0) (ix2 r j)
    + ∑ b ∈ Finset.range s, ∑ x : Fin 512, laneN m c r j (b * 512 + x.val)

theorem upTo_succ (c : Dev nD) (r : Fin 8192) (j : Fin 2048) (s : ℕ) :
    upTo m c r j (s + 1) = upTo m c r j s + ∑ x : Fin 512, laneN m c r j (s * 512 + x.val) := by
  unfold upTo
  rw [Finset.sum_range_succ, add_assoc]

/-- All eleven blocks are all the hidden columns. -/
theorem upTo_all (c : Dev nD) (r : Fin 8192) (j : Fin 2048) :
    upTo m c r j 11 = Ideal.ofBits .f32 0x3F9837F0#32 * m ((c : Thread nD τ).loc main_arg0) (ix2 r j)
      + ∑ k : Fin 5632, lane (m ((c : Thread nD τ).loc main_arg0)) (m ((c : Thread nD τ).loc main_arg1))
          (m ((c : Thread nD τ).loc main_arg2)) (m ((c : Thread nD τ).loc main_arg3)) r j k := by
  unfold upTo
  rw [Finset.sum_range]
  refine congrArg _ ?_
  refine Fin.sum_mul_add_congr fun s k hl => ?_
  rw [laneN, dif_pos hl]

/-- A point adds the block of columns its number names. -/
theorem part_eq (c : Dev nD) (t : Fin cfg0.N) (hb : Vec Ideal S1024x2048 .bf16) (acc : Vec Ideal S1024x2048 .f32) (y : S1024x2048.Idx)
    (hhb : ∀ (a : Fin 1024) (x : Fin 2048), hb (ix2 a x) = m ((c : Thread nD τ).loc main_arg0) (ix2 (row t a) x))
    (hacc : acc y = upTo m c (row t (y 0)) (y 1) (t.val % 11)) :
    k0_pay3 (F := Ideal) hb (View.ld (iblk m c 1 t) (Rect.unit ![0, 0] ![2048, 512] inb_S2048x640_S2048x512_0_0))
        (View.ld (iblk m c 2 t) (Rect.unit ![0, 0] ![2048, 512] inb_S2048x640_S2048x512_0_0)) acc
        (View.ld (iblk m c 3 t) (Rect.unit ![0, 0] ![512, 2048] inb_S512x2176_S512x2048_0_0)) y
      = upTo m c (row t (y 0)) (y 1) (t.val % 11 + 1) := by
  refine (part m c t hb acc y hhb).trans (Eq.trans ?_ (upTo_succ m c (row t (y 0)) (y 1) (t.val % 11)).symm)
  refine congrArg₂ (· + ·) hacc (Finset.sum_congr rfl fun x _ => ?_)
  exact (laneN_val m c (row t (y 0)) (y 1) (col t x)).symm

/-- The last point's normalisation of the finished rows. -/
def finished (c : Dev nD) (t : Fin cfg0.N) : Vec Ideal S1024x2048 .f32 :=
  k0_pay4 (F := Ideal) (fun y => upTo m c (row t (y 0)) (y 1) 11) (iblk m c 4 t) (iblk m c 5 t)

/-- What holds after point `n`: the kept rows, and the block, begun or finished. -/
def After (c : Dev nD) (n : ℕ) (hn : n < cfg0.N) (o : Vec Ideal S1024x2048 .f32 × Vec Ideal S1024x2048 .bf16) : Prop :=
  (∀ (a : Fin 1024) (x : Fin 2048), o.2 (ix2 a x) = m ((c : Thread nD τ).loc main_arg0) (ix2 (row ⟨n, hn⟩ a) x))
    ∧ (n % 11 ≠ 10 → ∀ y, o.1 y = upTo m c (row ⟨n, hn⟩ (y 0)) (y 1) (n % 11 + 1))
    ∧ (n % 11 = 10 → o.1 = finished m c ⟨n, hn⟩)

/-- A point that opens a row block, whatever came before. -/
theorem opens (c : Dev nD) (t : Fin cfg0.N) (h0 : t.val % 11 = 0) (acc) : After m c t.val t.isLt (stAt0 m c t.val t.isLt acc) := by
  rw [stAt0_A m c t acc h0 (by omega)]
  frame_out
  refine ⟨fun a x => ?_, fun _ y => ?_, fun h => by omega⟩
  · dsimp only
    rw [kept]; exact rows_at m c t a x
  · dsimp only
    refine part_eq m c t _ _ y (fun a x => by rw [kept]; exact rows_at m c t a x) ?_
    rw [residual, h0]
    refine Eq.trans ?_ (add_zero _).symm
    refine congrArg _ ?_
    exact (congrArg (iblk m c 0 t) (by blk_ext)).trans (rows_at m c t (y 0) (y 1))

theorem sweep (c : Dev nD) : ∀ (n : ℕ) (hn : n < cfg0.N), After m c n hn (outsAt0 m c n hn)
  | 0, hn => by rw [outsAt0_zero]; exact opens m c ⟨0, hn⟩ rfl _
  | n + 1, hn => by
    rw [outsAt0_succ]
    by_cases h0 : (n + 1) % 11 = 0
    · exact opens m c ⟨n + 1, hn⟩ h0 _
    have ih := sweep c n (Nat.lt_of_succ_lt hn)
    generalize outsAt0 m c n _ = acc at ih ⊢
    have hrow : ∀ a, row ⟨n, Nat.lt_of_succ_lt hn⟩ a = row ⟨n + 1, hn⟩ a := fun a => by
      apply Fin.ext; simp only [row]; omega
    have hh : ∀ (a : Fin 1024) (x : Fin 2048), acc.2 (ix2 a x) = m ((c : Thread nD τ).loc main_arg0) (ix2 (row ⟨n + 1, hn⟩ a) x) :=
      fun a x => by rw [ih.1 a x, hrow]
    have hacc : ∀ y, acc.1 y = upTo m c (row ⟨n + 1, hn⟩ (y 0)) (y 1) ((n + 1) % 11) := fun y =>
      (ih.2.1 (by omega) y).trans (congrArg₂ (fun r s => upTo m c r (y 1) s) (hrow (y 0)) (by omega))
    by_cases h1 : (n + 1) % 11 = 10
    · rw [stAt0_C m c ⟨n + 1, hn⟩ acc h0 h1]
      frame_out
      refine ⟨hh, fun h => absurd h1 h, fun _ => ?_⟩
      dsimp only
      unfold finished
      refine congrArg (fun v => k0_pay4 (F := Ideal) v (iblk m c 4 ⟨n + 1, hn⟩) (iblk m c 5 ⟨n + 1, hn⟩)) (funext fun y => ?_)
      refine (part_eq m c ⟨n + 1, hn⟩ _ acc.1 y (fun a x => (congrFun (Memref.IsWhole.read_unread (Memref.isWhole_whole cc0_scratch0) acc.2) _).trans (hh a x)) (hacc y)).trans ?_
      exact congrArg (fun s => upTo m c _ _ (s + 1)) h1
    · rw [stAt0_B m c ⟨n + 1, hn⟩ acc h0 h1]
      frame_out
      refine ⟨hh, fun _ y => ?_, fun h => absurd h h1⟩
      dsimp only
      exact part_eq m c ⟨n + 1, hn⟩ _ acc.1 y (fun a x => (congrFun (Memref.IsWhole.read_unread (Memref.isWhole_whole cc0_scratch0) acc.2) _).trans (hh a x)) (hacc y)

end Cert.FfnIdeal.Mine

end
-- ==== Proof.Ffn.Value.lean ====
module

public import proofs.«01_k».proof.Proof.Ffn.Sweep
public import proofs.«01_k».proof.Proof.Gen.FfnRefIdeal.Run

/-!
# The feed-forward call computes the reference's feed-forward block and normalisation
-/

@[expose] public section

set_option maxRecDepth 16384

noncomputable section

namespace Cert.FfnIdeal.Mine

open Cert.FfnIdeal Cert.FfnIdeal.Gen Cert.FfnIdeal.Value Idealize.ShloMosaic Idealize.ShloMosaic.TcCoe Idealize.ShloMosaic.Tactic Idealize.SL.Sem

/-- A row of the residual plus the whole feed-forward block. -/
def total (H : Vec Ideal S8192x2048 .f32) (WG WU : Vec Ideal S2048x5632 .f32) (WD : Vec Ideal S5632x2048 .f32)
    (r : Fin 8192) (j : Fin 2048) : EReal :=
  Ideal.ofBits .f32 0x3F9837F0#32 * H (ix2 r j) + ∑ k : Fin 5632, lane H WG WU WD r j k

/-- Entry `j` of the normalisation of a row `v`, with scale `g` and shift `b`. -/
def normal (v : Fin 2048 → EReal) (g b : Vec Ideal S2048 .f32) (j : Fin 2048) : EReal :=
  (v j - Ideal.div (∑ x, v x) (Ideal.ofBits .f32 0x45000000#32))
      * Ideal.rsqrt (Ideal.div (∑ x, (v x - Ideal.div (∑ x, v x) (Ideal.ofBits .f32 0x45000000#32))
            * (v x - Ideal.div (∑ x, v x) (Ideal.ofBits .f32 0x45000000#32))) (Ideal.ofBits .f32 0x45000000#32)
          + Ideal.ofBits .f32 0x3727C5AC#32) * g (ix1 j) + b (ix1 j)

variable (m : (ℓ : Loc nD τ sig) → Buf (Elt Ideal) ℓ)

theorem finished_at (c : Dev nD) (t : Fin cfg0.N) (y : S1024x2048.Idx) :
    finished m c t y = normal (total (m ((c : Thread nD τ).loc main_arg0)) (m ((c : Thread nD τ).loc main_arg1))
      (m ((c : Thread nD τ).loc main_arg2)) (m ((c : Thread nD τ).loc main_arg3)) (row t (y 0)))
      (m ((c : Thread nD τ).loc main_arg4)) (m ((c : Thread nD τ).loc main_arg5)) (y 1) := by
  have hv : (fun y : S1024x2048.Idx => upTo m c (row t (y 0)) (y 1) 11) = fun y => total (m ((c : Thread nD τ).loc main_arg0)) (m ((c : Thread nD τ).loc main_arg1))
      (m ((c : Thread nD τ).loc main_arg2)) (m ((c : Thread nD τ).loc main_arg3)) (row t (y 0)) (y 1) := funext fun y => upTo_all m c (row t (y 0)) (y 1)
  unfold finished normal
  rw [hv]
  have hg := scale_at m c t
  have hb := shift_at m c t
  generalize iblk m c 4 t = g at hg ⊢
  generalize iblk m c 5 t = b at hb ⊢
  pointwise [k0_pay4]
  exact congrArg₂ (· + ·) (congrArg (_ * ·) (hg (y 1))) (hb (y 1))

theorem ref_at (m' : (ℓ : Loc Cert.FfnRefIdeal.nD Cert.FfnRefIdeal.τ Cert.FfnRefIdeal.sig) → Buf (Elt Ideal) ℓ) (c : Dev nD) (i : S8192x2048.Idx) :
    Cert.FfnRefIdeal.Value.res_out0 m' c i
      = normal (total (m' ((c : Thread nD τ).loc Cert.FfnRefIdeal.main_arg0)) (m' ((c : Thread nD τ).loc Cert.FfnRefIdeal.main_arg1))
          (m' ((c : Thread nD τ).loc Cert.FfnRefIdeal.main_arg2)) (m' ((c : Thread nD τ).loc Cert.FfnRefIdeal.main_arg3)) (i 0))
          (m' ((c : Thread nD τ).loc Cert.FfnRefIdeal.main_arg4)) (m' ((c : Thread nD τ).loc Cert.FfnRefIdeal.main_arg5)) (i 1) := by
  unfold Cert.FfnRefIdeal.Value.res_out0 Cert.FfnRefIdeal.Value.res_main_v31
  pointwise
  unfold normal total lane
  refine congrArg₂ (· + ·) (congrArg₂ (· * ·) (congrArg₂ (· * ·) (congrArg₂ (· - ·) (congrArg₂ (· + ·) (congrArg (_ * ·) ?_) ?_) ?_) ?_) ?_) ?_
  · blk_ext
  all_goals rfl

theorem G6_at (c : Dev nD) (i : S8192x2048.Idx) :
    G6 m c i = normal (total (m ((c : Thread nD τ).loc main_arg0)) (m ((c : Thread nD τ).loc main_arg1))
      (m ((c : Thread nD τ).loc main_arg2)) (m ((c : Thread nD τ).loc main_arg3)) (i 0))
      (m ((c : Thread nD τ).loc main_arg4)) (m ((c : Thread nD τ).loc main_arg5)) (i 1) := by
  have h0 : (i 0).val < 8192 := (i 0).isLt
  have h1 : (i 1).val < 2048 := (i 1).isLt
  have hN : cfg0.N = 88 := N_0
  have hv : pt6Of i = 11 * ((i 0).val / 1024) + 10 := by dsimp only [pt6Of, run6Of]; omega
  have hp : pt6Of i < cfg0.N := by rw [hN, hv]; omega
  unfold G6
  rw [dif_pos hp, ← outsAt0_sweep m c (pt6Of i) hp, (sweep m c (pt6Of i) hp).2.2 (by rw [hv]; omega)]
  refine (finished_at m c ⟨pt6Of i, hp⟩ (loc6Of i)).trans (congrArg₂ (fun r j => normal (total (m ((c : Thread nD τ).loc main_arg0))
    (m ((c : Thread nD τ).loc main_arg1)) (m ((c : Thread nD τ).loc main_arg2)) (m ((c : Thread nD τ).loc main_arg3)) r)
    (m ((c : Thread nD τ).loc main_arg4)) (m ((c : Thread nD τ).loc main_arg5)) j) ?_ ?_)
  · apply Fin.ext
    show pt6Of i / 11 * 1024 + (i 0).val % 1024 = (i 0).val
    omega
  · apply Fin.ext
    show (i 1).val % 2048 = (i 1).val
    omega

/-- The two programs leave the same array when they are given the same arguments. -/
theorem same (m' : (ℓ : Loc Cert.FfnRefIdeal.nD Cert.FfnRefIdeal.τ Cert.FfnRefIdeal.sig) → Buf (Elt Ideal) ℓ) (c : Dev nD)
    (h0 : m' ((c : Thread nD τ).loc Cert.FfnRefIdeal.main_arg0) = m ((c : Thread nD τ).loc main_arg0))
    (h1 : m' ((c : Thread nD τ).loc Cert.FfnRefIdeal.main_arg1) = m ((c : Thread nD τ).loc main_arg1))
    (h2 : m' ((c : Thread nD τ).loc Cert.FfnRefIdeal.main_arg2) = m ((c : Thread nD τ).loc main_arg2))
    (h3 : m' ((c : Thread nD τ).loc Cert.FfnRefIdeal.main_arg3) = m ((c : Thread nD τ).loc main_arg3))
    (h4 : m' ((c : Thread nD τ).loc Cert.FfnRefIdeal.main_arg4) = m ((c : Thread nD τ).loc main_arg4))
    (h5 : m' ((c : Thread nD τ).loc Cert.FfnRefIdeal.main_arg5) = m ((c : Thread nD τ).loc main_arg5)) :
    Cert.FfnRefIdeal.Value.res_out0 m' c = G6 m c :=
  funext fun i => by rw [ref_at m' c i, G6_at m c i, h0, h1, h2, h3, h4, h5]

end Cert.FfnIdeal.Mine

end
-- ==== Proof.Mix.Words.lean ====
module

public import proofs.«01_k».proof.Proof.Gen.KernelIdeal.Value
public import Idealize.ShloMosaic.Lib.Pipeline.ValueKit

/-!
# The square table of zeros and ones

Rows of a group are sixteen sequences of four positions. The square table says which rows stand in a row's own sequence,
at its position or before it. The long table has three copies, side by side, of three square tables on top of one
another: this one, which rows stand at one of the first three positions of the row's sequence, and which rows are of its
sequence.
-/

@[expose] public section

set_option maxRecDepth 16384

noncomputable section

namespace Cert.KernelIdeal.Mine

open Cert.KernelIdeal Cert.KernelIdeal.Gen Idealize.ShloMosaic Idealize.ShloMosaic.TcCoe Idealize.ShloMosaic.Tactic Idealize.SL.Sem

/-- Whether row `j` of the group counts for row `r` of the long table. -/
def counts (r j : ℕ) : Bool :=
  (r % 64 / 4 == j / 4) && (if r < 64 then j % 4 ≤ r % 4 else if r < 128 then j % 4 ≤ 2 else true)

/-- Sixteen rows of the long table's words, from row `16 n`. -/
def RowsRight (n : ℕ) : Prop := ∀ r : Fin 16, ∀ k : Fin 192,
  lit0t (192 * (16 * n + r.val) + k.val) = if counts (16 * n + r.val) (k.val % 64) then 0x3F80#16 else 0#16

instance (n : ℕ) : Decidable (RowsRight n) := by unfold RowsRight; infer_instance

theorem square_words : ∀ r : Fin 64, ∀ k : Fin 64,
    lit1t (64 * r.val + k.val) = if counts r.val k.val then 0x3F800000#32 else 0#32 := by
  decide +kernel

end Cert.KernelIdeal.Mine

end
-- ==== Proof.Mix.WordsA.lean ====
module

public import proofs.«01_k».proof.Proof.Mix.Words

/-!
# Rows 0 to 47 of the long table of zeros and ones
-/

@[expose] public section

set_option maxRecDepth 16384

noncomputable section

namespace Cert.KernelIdeal.Mine

open Cert.KernelIdeal Idealize.ShloMosaic

theorem long_words_0 : RowsRight 0 := by decide +kernel

theorem long_words_1 : RowsRight 1 := by decide +kernel

theorem long_words_2 : RowsRight 2 := by decide +kernel

end Cert.KernelIdeal.Mine

end
-- ==== Proof.Mix.WordsB.lean ====
module

public import proofs.«01_k».proof.Proof.Mix.Words

/-!
# Rows 48 to 95 of the long table of zeros and ones
-/

@[expose] public section

set_option maxRecDepth 16384

noncomputable section

namespace Cert.KernelIdeal.Mine

open Cert.KernelIdeal Idealize.ShloMosaic

theorem long_words_3 : RowsRight 3 := by decide +kernel

theorem long_words_4 : RowsRight 4 := by decide +kernel

theorem long_words_5 : RowsRight 5 := by decide +kernel

end Cert.KernelIdeal.Mine

end
-- ==== Proof.Mix.WordsC.lean ====
module

public import proofs.«01_k».proof.Proof.Mix.Words

/-!
# Rows 96 to 143 of the long table of zeros and ones
-/

@[expose] public section

set_option maxRecDepth 16384

noncomputable section

namespace Cert.KernelIdeal.Mine

open Cert.KernelIdeal Idealize.ShloMosaic

theorem long_words_6 : RowsRight 6 := by decide +kernel

theorem long_words_7 : RowsRight 7 := by decide +kernel

theorem long_words_8 : RowsRight 8 := by decide +kernel

end Cert.KernelIdeal.Mine

end
-- ==== Proof.Mix.WordsD.lean ====
module

public import proofs.«01_k».proof.Proof.Mix.Words

/-!
# Rows 144 to 191 of the long table of zeros and ones
-/

@[expose] public section

set_option maxRecDepth 16384

noncomputable section

namespace Cert.KernelIdeal.Mine

open Cert.KernelIdeal Idealize.ShloMosaic

theorem long_words_9 : RowsRight 9 := by decide +kernel

theorem long_words_10 : RowsRight 10 := by decide +kernel

theorem long_words_11 : RowsRight 11 := by decide +kernel

end Cert.KernelIdeal.Mine

end
-- ==== Proof.Mix.Operands.lean ====
module

public import proofs.«01_k».proof.Proof.Mix.WordsA
public import proofs.«01_k».proof.Proof.Mix.WordsB
public import proofs.«01_k».proof.Proof.Mix.WordsC
public import proofs.«01_k».proof.Proof.Mix.WordsD
public import proofs.«01_k».proof.Proof.Gen.KernelIdeal.Value
public import Idealize.ShloMosaic.Lib.Pipeline.ValueKit
public import Idealize.ShloMosaic.Lib.Pipeline.ValueKit.Tiles

/-!
# What a grid point of the mixer is given

Point `t` of the eight has sequences `16 t` to `16 t + 15`: their rows of the projections, their states and kept rows, the whole
scale, taps and the two tables.
-/

@[expose] public section

set_option maxRecDepth 16384

noncomputable section

namespace Cert.KernelIdeal.Mine

open Cert.KernelIdeal Cert.KernelIdeal.Gen Cert.KernelIdeal.Value Idealize.ShloMosaic Idealize.ShloMosaic.TcCoe Idealize.ShloMosaic.Tactic Idealize.SL.Sem

variable (m : (ℓ : Loc nD τ sig) → Buf (Elt Ideal) ℓ)

/-- Which block of each array a grid point is given. -/
theorem idx : ∀ t : Fin cfg0.N, win0_0.index t = ![t.val, 0] ∧ win0_1.index t = ![t.val, 0]
    ∧ win0_2.index t = ![t.val, 0, 0, 0] ∧ win0_3.index t = ![t.val, 0, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0, 0, 0] ∧ win0_10.index t = ![t.val, 0, 0] ∧ t.val < 8 :=
  (by decide +kernel : ∀ t : Fin grid0.N, _)

theorem point_lt (t : Fin cfg0.N) : t.val < 8 := (idx t).2.2.2.2.2.2.2.2.2.2.2

theorem rows0_at (c : Dev nD) (t : Fin cfg0.N) (r : Fin 64) (j : Fin 5120) (R : Fin 576) (hR : R.val = 64 * t.val + r.val) :
    iblk m c 0 t (ix2 r j) = m ((c : Thread nD τ).loc main_arg0) (ix2 R j) := by
  blk_ext [iblk, V, idx t]

theorem rows1_at (c : Dev nD) (t : Fin cfg0.N) (r : Fin 64) (j : Fin 2048) (R : Fin 576) (hR : R.val = 64 * t.val + r.val) :
    iblk m c 1 t (ix2 r j) = m ((c : Thread nD τ).loc main_arg1) (ix2 R j) := by
  blk_ext [iblk, V, idx t]

theorem old_at (c : Dev nD) (t : Fin cfg0.N) (s : Fin 16) (h : Fin 8) (k v : Fin 128) (S : Fin 128) (hS : S.val = 16 * t.val + s.val) :
    iblk m c 2 t (ix4 s h k v) = m ((c : Thread nD τ).loc main_arg2) (ix4 S h k v) := by
  blk_ext [iblk, V, idx t]

theorem keptRows_at (c : Dev nD) (t : Fin cfg0.N) (s : Fin 16) (p : Fin 2) (k : Fin 1024) (S : Fin 128) (hS : S.val = 16 * t.val + s.val) :
    iblk m c 3 t (ix3 s p k) = m ((c : Thread nD τ).loc main_arg3) (ix3 S p k) := by
  blk_ext [iblk, V, idx t]

theorem V_scale (c : Dev nD) (i : S1x1024.Idx) : V m c main_v0 i = m ((c : Thread nD τ).loc main_arg4) (ix1 (i 1)) := by
  simp only [V, List.flatten_cons, List.flatten_nil, List.cons_append, List.nil_append, List.append_nil]
  after_results
  pointwise

theorem gain_at (c : Dev nD) (t : Fin cfg0.N) (k : Fin 1024) :
    iblk m c 4 t (ix2 (0 : Fin 1) k) = m ((c : Thread nD τ).loc main_arg4) (ix1 k) := by
  refine Eq.trans (b := V m c main_v0 (ix2 0 k)) (by blk_ext [iblk, idx t]) ?_
  rw [V_scale]; rfl

theorem taps_at (c : Dev nD) (t : Fin cfg0.N) (j : Fin 3) (k : Fin 1024) :
    iblk m c 5 t (ix2 j k) = m ((c : Thread nD τ).loc main_arg5) (ix2 j k) := by
  blk_ext [iblk, V, idx t]

theorem long_words (r k : Fin 192) :
    lit0t (192 * r.val + k.val) = if counts r.val (k.val % 64) then 0x3F80#16 else 0#16 := by
  have h : ∀ n : Fin 12, RowsRight n.val := fun n => by
    fin_cases n
    exacts [long_words_0, long_words_1, long_words_2, long_words_3, long_words_4, long_words_5, long_words_6, long_words_7,
      long_words_8, long_words_9, long_words_10, long_words_11]
  have e := h ⟨r.val / 16, by omega⟩ ⟨r.val % 16, by omega⟩ k
  have e' : 16 * (r.val / 16) + r.val % 16 = r.val := by omega
  simp only [e'] at e
  exact e

theorem V_long (c : Dev nD) (i : S192x192.Idx) : V m c main_cst i = FloatOps.ofBits (F := Ideal) .bf16 (lit0 (S192x192.rowMajor i)) := by
  simp only [V, List.flatten_cons, List.flatten_nil, List.cons_append, List.nil_append, List.append_nil]
  after_results

theorem V_square (c : Dev nD) (i : S64x64.Idx) : V m c main_cst_0 i = FloatOps.ofBits (F := Ideal) .f32 (lit1 (S64x64.rowMajor i)) := by
  simp only [V, List.flatten_cons, List.flatten_nil, List.cons_append, List.nil_append, List.append_nil]
  after_results

theorem table_at (c : Dev nD) (t : Fin cfg0.N) (r k : Fin 192) :
    (iblk m c 6 t (ix2 r k) : EReal) = if counts r.val (k.val % 64) then (1 : EReal) else 0 := by
  refine Eq.trans (b := V m c main_cst (ix2 r k)) (by blk_ext [iblk, idx t]) ?_
  rw [V_long]
  have e : lit0 (S192x192.rowMajor (ix2 r k)) = if counts r.val (k.val % 64) then 0x3F80#16 else 0#16 := by
    refine Eq.trans ?_ (long_words r k)
    refine congrArg lit0t ((Shape.rowMajor_val_two (ix2 r k)).trans ?_)
    show r.val * 192 + k.val = _
    omega
  rw [e]
  split
  · exact Ideal.ofBits_one_bf16
  · exact Ideal.ofBits_zero_bf16

/-- The comparison of the square table with zero: the row and an earlier row, or itself, of its sequence. -/
theorem mask_at (c : Dev nD) (t : Fin cfg0.N) (r r' : Fin 64) :
    k0_pay74 (F := Ideal) (iblk m c 7 t) (ix2 r r') = if r'.val / 4 = r.val / 4 ∧ r'.val % 4 ≤ r.val % 4 then 1 else 0 := by
  have e : (iblk m c 7 t (ix2 r r') : EReal) = if counts r.val r'.val then (1 : EReal) else 0 := by
    refine Eq.trans (b := V m c main_cst_0 (ix2 r r')) (by blk_ext [iblk, idx t]) ?_
    rw [V_square]
    have e : lit1 (S64x64.rowMajor (ix2 r r')) = if counts r.val r'.val then 0x3F800000#32 else 0#32 := by
      refine Eq.trans ?_ (square_words r r')
      refine congrArg lit1t ((Shape.rowMajor_val_two (ix2 r r')).trans ?_)
      show r.val * 64 + r'.val = _
      omega
    rw [e]
    split
    · exact Ideal.ofBits_one_f32
    · exact Ideal.ofBits_zero_f32
  have hr : r.val % 64 = r.val := Nat.mod_eq_of_lt r.isLt
  have hc : counts r.val r'.val = decide (r'.val / 4 = r.val / 4 ∧ r'.val % 4 ≤ r.val % 4) := by
    unfold counts
    rw [if_pos r.isLt, hr]
    refine Bool.eq_iff_iff.mpr ?_
    simp only [Bool.and_eq_true, beq_iff_eq, decide_eq_true_eq]
    omega
  rw [hc] at e
  show FloatOps.cmpf (F := Ideal) .ogt (iblk m c 7 t (ix2 r r')) (Ideal.ofBits .f32 0x00000000#32) = _
  refine (congrArg₂ (fun a b : EReal => FloatOps.cmpf (F := Ideal) (φ := .f32) .ogt a b) e Ideal.ofBits_zero_f32).trans ?_
  by_cases h : r'.val / 4 = r.val / 4 ∧ r'.val % 4 ≤ r.val % 4
  · rw [if_pos h, if_pos (decide_eq_true h)]
    show BitVec.ofBool (decide ((0 : EReal) < 1)) = 1
    rw [decide_eq_true zero_lt_one]
    rfl
  · rw [if_neg h, if_neg (fun e => h (of_decide_eq_true e))]
    show BitVec.ofBool (decide ((0 : EReal) < 0)) = 0
    rw [decide_eq_false (lt_irrefl _)]
    rfl

end Cert.KernelIdeal.Mine

end
-- ==== Proof.Mix.Decay.lean ====
module

public import proofs.«01_k».proof.Proof.Gen.KernelIdeal.Value
public import proofs.«01_k».proof.Proof.Mix.Words
public import Idealize.ShloMosaic.Lib.Pipeline.ValueKit

/-!
# The cumulative log-decays

The call multiplies a table of zeros and ones with the log-decays split in three parts, and scales the product so that a
power of two is the wanted exponential. At real arithmetic the three parts add up to the log-decay, so a row of the product
is the sum of the log-decays that the table counts for it.
-/

@[expose] public section

set_option maxRecDepth 16384

noncomputable section

namespace Cert.KernelIdeal.Mine

open Cert.KernelIdeal Cert.KernelIdeal.Gen Idealize.ShloMosaic Idealize.ShloMosaic.TcCoe Idealize.ShloMosaic.Tactic Idealize.SL.Sem

/-- The three parts of a number below infinity add up to it. -/
theorem three_parts (x : EReal) (h : x ≠ ⊤) : x + ((x - x) + (x - x - (x - x))) = x := by
  induction x with
  | bot => rfl
  | top => exact absurd rfl h
  | coe r => rw [← EReal.coe_sub, sub_self, ← EReal.coe_sub, sub_self, EReal.coe_zero, add_zero, add_zero]

/-- The scale: the inverse of the natural logarithm of two. -/
abbrev scale : ℝ := (Real.log 2)⁻¹

theorem scale_pos : 0 < scale := inv_pos.mpr (Real.log_pos (by norm_num))

theorem exp2_scaled (x : EReal) : Ideal.exp2 (x * (scale : EReal)) = Ideal.exp x := by
  induction x with
  | bot => rw [EReal.bot_mul_coe_of_pos scale_pos]; rfl
  | top => rw [EReal.top_mul_coe_of_pos scale_pos]; rfl
  | coe r =>
    rw [← EReal.coe_mul]
    show ((Real.rpow 2 (r * scale) : ℝ) : EReal) = ((Real.exp r : ℝ) : EReal)
    congr 1
    show (2 : ℝ) ^ (r * scale) = Real.exp r
    rw [Real.rpow_def_of_pos (by norm_num)]
    congr 1
    have : Real.log 2 ≠ 0 := (Real.log_pos (by norm_num)).ne'
    show Real.log 2 * (r * (Real.log 2)⁻¹) = r
    field_simp

theorem scaled_sub (x y : EReal) : x * (scale : EReal) - y * (scale : EReal) = (x - y) * (scale : EReal) := by
  have hb := EReal.bot_mul_coe_of_pos scale_pos
  have ht := EReal.top_mul_coe_of_pos scale_pos
  induction x with
  | bot => rw [hb, EReal.bot_sub, EReal.bot_sub, hb]
  | top =>
    induction y with
    | bot => rw [hb, ht, EReal.top_sub_bot, ht]
    | top => rw [ht, EReal.sub_top, hb]
    | coe s => rw [ht, ← EReal.coe_mul, EReal.top_sub_coe, EReal.top_sub_coe, ht]
  | coe r =>
    induction y with
    | bot => rw [hb, ← EReal.coe_mul, EReal.coe_sub_bot, EReal.coe_sub_bot, ht]
    | top => rw [ht, EReal.sub_top, EReal.sub_top, hb]
    | coe s => rw [← EReal.coe_mul, ← EReal.coe_mul, ← EReal.coe_sub, ← EReal.coe_sub, ← EReal.coe_mul, sub_mul]

theorem exp_ne_top (x : EReal) (h : x ≠ ⊤) : Ideal.exp x ≠ ⊤ := by
  induction x with
  | bot => exact EReal.zero_ne_top
  | top => exact absurd rfl h
  | coe r => exact EReal.coe_ne_top _

theorem sum_ne_top {n : ℕ} (f : Fin n → EReal) (h : ∀ i, f i ≠ ⊤) : ∑ i, f i ≠ ⊤ := by
  induction n with
  | zero => simp
  | succ n ih =>
    rw [Fin.sum_univ_succ]
    exact EReal.add_ne_top (h 0) (ih _ fun i => h i.succ)

/-- The table's product, as a sum over the block's rows. -/
theorem decay_at (x6 : Vec Ideal S192x192 .bf16) (lf : FVec Ideal S64x1024 .f32)
    (h6 : ∀ r k : Fin 192, (x6 (ix2 r k) : EReal) = if counts r.val (k.val % 64) then 1 else 0)
    (hlf : ∀ (i : Fin 64) (k : Fin 1024), (lf (ix2 i k) : EReal) ≠ ⊤) (r : Fin 192) (k : Fin 1024) :
    k0_pay73 (F := Ideal) x6 lf (ix2 r k)
      = (∑ i : Fin 64, if counts r.val i.val then lf (ix2 i k) else (0 : EReal)) * (scale : EReal) := by
  open_payloads
  pointwise
  refine congrArg₂ (· * ·) ?_ ?_
  · refine (Fin.sum_univ_add (a := 128) (b := 64) _).trans ?_
    refine (congrArg (· + _) (Fin.sum_univ_add (a := 64) (b := 64) _)).trans ?_
    rw [← Finset.sum_add_distrib, ← Finset.sum_add_distrib]
    refine Finset.sum_congr rfl fun i _ => ?_
    have hi := i.isLt
    simp only [h6, Fin.val_castAdd, Fin.val_natAdd]
    have a1 : ¬ (64 + i.val < 64) := by omega
    have a2 : ¬ (128 + i.val < 64) := by omega
    have a3 : ¬ (128 + i.val - 64 < 64) := by omega
    have a4 : 64 + i.val - 64 < 64 := by omega
    have b1 : i.val % 64 = i.val := Nat.mod_eq_of_lt hi
    have b2 : (64 + i.val) % 64 = i.val := by omega
    have b3 : (128 + i.val) % 64 = i.val := by omega
    have c1 : 64 + i.val - 64 = i.val := by omega
    have c2 : 128 + i.val - 64 - 64 = i.val := by omega
    simp only [a1, a2, a3, a4, b1, b2, b3, c1, c2, hi, dif_pos, dif_neg, not_false_eq_true]
    by_cases hc : counts r.val i.val = true
    · simp only [hc, if_true, one_mul]
      rw [add_assoc]
      exact three_parts _ (hlf i k)
    · simp only [hc, Bool.false_eq_true, if_false, zero_mul, add_zero]
  · rfl

/-- Which of a sequence's four positions a row of the table counts: those up to its own, those up to the third, all. -/
def reach (b p q : ℕ) : Bool := if b = 0 then q ≤ p else if b = 1 then q ≤ 2 else true

/-- A row of the table counts positions of its own sequence only. -/
theorem counted (b : ℕ) (hb : b < 3) (s : Fin 16) (p : Fin 4) (f : Fin 64 → EReal) :
    (∑ i : Fin 64, if counts (64 * b + (4 * s.val + p.val)) i.val then f i else 0)
      = ∑ q : Fin 4, if reach b p.val q.val then f ⟨4 * s.val + q.val, by omega⟩ else 0 := by
  symm
  have hs := s.isLt
  have hp := p.isLt
  have e1 : (64 * b + (4 * s.val + p.val)) % 64 = 4 * s.val + p.val := by omega
  have e2 : (4 * s.val + p.val) / 4 = s.val := by omega
  have e3 : (64 * b + (4 * s.val + p.val)) % 4 = p.val := by omega
  refine Fintype.sum_of_injective (fun q : Fin 4 => (⟨4 * s.val + q.val, by omega⟩ : Fin 64)) ?_ _ _ ?_ ?_
  · intro p q h
    have := congrArg Fin.val h
    exact Fin.ext (by simpa using this)
  · intro i hi
    have : ¬ s.val = i.val / 4 := by
      intro h
      exact hi ⟨⟨i.val % 4, by omega⟩, Fin.ext (by simp only []; omega)⟩
    simp only [counts, e1, e2, beq_iff_eq, this, Bool.and_eq_true, false_and, if_false]
  · intro q
    have hq := q.isLt
    have e4 : (4 * s.val + q.val) / 4 = s.val := by omega
    have e5 : (4 * s.val + q.val) % 4 = q.val := by omega
    have key : counts (64 * b + (4 * s.val + p.val)) (4 * s.val + q.val) = reach b p.val q.val := by
      unfold counts reach
      rw [e1, e2, e3, e4, e5, beq_self_eq_true, Bool.true_and]
      have hb' : b = 0 ∨ b = 1 ∨ b = 2 := by omega
      rcases hb' with rfl | rfl | rfl
      · rw [if_pos (by omega), if_pos rfl]
      · rw [if_neg (by omega), if_pos (by omega), if_neg (by decide), if_pos rfl]
      · rw [if_neg (by omega), if_neg (by omega), if_neg (by decide), if_neg (by decide)]
    simp only [key]

/-- The cumulative log-decay of a sequence that the table's row for position `p` counts. -/
def decaySum (lf : FVec Ideal S64x1024 .f32) (b : ℕ) (s : Fin 16) (p : Fin 4) (k : Fin 1024) : EReal :=
  ∑ q : Fin 4, if reach b p.val q.val then lf (ix2 ⟨4 * s.val + q.val, by omega⟩ k) else 0

theorem decay_row (x6 : Vec Ideal S192x192 .bf16) (lf : FVec Ideal S64x1024 .f32)
    (h6 : ∀ r k : Fin 192, (x6 (ix2 r k) : EReal) = if counts r.val (k.val % 64) then 1 else 0)
    (hlf : ∀ (i : Fin 64) (k : Fin 1024), (lf (ix2 i k) : EReal) ≠ ⊤) (b : ℕ) (hb : b < 3) (s : Fin 16) (p : Fin 4) (r : Fin 192)
    (hr : r.val = 64 * b + (4 * s.val + p.val)) (k : Fin 1024) :
    k0_pay73 (F := Ideal) x6 lf (ix2 r k) = decaySum lf b s p k * (scale : EReal) := by
  rw [decay_at x6 lf h6 hlf, hr, counted b hb s p (fun i => lf (ix2 i k))]
  rfl

theorem decaySum_ne_top (lf : FVec Ideal S64x1024 .f32) (hlf : ∀ (i : Fin 64) (k : Fin 1024), (lf (ix2 i k) : EReal) ≠ ⊤)
    (b : ℕ) (s : Fin 16) (p : Fin 4) (k : Fin 1024) : decaySum lf b s p k ≠ ⊤ := by
  refine sum_ne_top _ fun q => ?_
  split
  · exact hlf _ _
  · exact EReal.zero_ne_top

theorem table_power_ne_top (x6 : Vec Ideal S192x192 .bf16) (lf : FVec Ideal S64x1024 .f32)
    (h6 : ∀ r k : Fin 192, (x6 (ix2 r k) : EReal) = if counts r.val (k.val % 64) then 1 else 0)
    (hlf : ∀ (i : Fin 64) (k : Fin 1024), (lf (ix2 i k) : EReal) ≠ ⊤) (r : Fin 192) (k : Fin 1024) :
    Ideal.exp2 (k0_pay73 (F := Ideal) x6 lf (ix2 r k)) ≠ ⊤ := by
  rw [decay_at x6 lf h6 hlf, exp2_scaled]
  refine exp_ne_top _ (sum_ne_top _ fun q => ?_)
  split
  · exact hlf _ _
  · exact EReal.zero_ne_top

end Cert.KernelIdeal.Mine

end
-- ==== Proof.Mix.State.lean ====
module

public import proofs.«01_k».proof.Proof.Gen.KernelIdeal.Value
public import Idealize.ShloMosaic.Lib.Pipeline.ValueKit
public import Idealize.ShloMosaic.Lib.Pipeline.ValueKit.Tiles

/-!
# One sequence's new state
-/

@[expose] public section

set_option maxRecDepth 100000

noncomputable section

namespace Cert.KernelIdeal.Mine

open Cert.KernelIdeal Cert.KernelIdeal.Gen Idealize.ShloMosaic Idealize.ShloMosaic.TcCoe Idealize.ShloMosaic.Tactic Idealize.SL.Sem

/-- The left factor: a sequence's keys (its rows of the sixteen, the others zero) over three rows that hold its decay in parts. -/
abbrev keysOver (M : IVec S16x128 1) (U : FVec Ideal S16x128 .f32) (d : FVec Ideal S1x128 .f32)
    (h1 : FTy.bf16.bits < FTy.f32.bits) (h3 : S1x128.ShapeCasts S1x128) (h4 : S1x128.Broadcasts S16x128)
    (h9 : Shape.Concatenates [S16x128, S16x128] S32x128 0) : FVec Ideal S32x128 .bf16 :=
  truncf .bf16 (concatenate S32x128 0 [⟨S16x128, select M U (broadcast S16x128 (FloatOps.ofBits .f32 0x00000000#32))⟩,
      ⟨S16x128, select (cmpi .eq (iota .tc S16x128 32 [0] iota_S16x128_d0_w32) (broadcast S16x128 0#32))
        (broadcastTo S16x128 (shapeCast S1x128 (extf .f32 (truncf .bf16 d h1) h1) h3) h4)
        (select (cmpi .eq (iota .tc S16x128 32 [0] iota_S16x128_d0_w32) (broadcast S16x128 1#32))
          (broadcastTo S16x128 (shapeCast S1x128 (extf .f32 (truncf .bf16 (subf d (extf .f32 (truncf .bf16 d h1) h1)) h1) h1) h3) h4)
          (select (cmpi .eq (iota .tc S16x128 32 [0] iota_S16x128_d0_w32) (broadcast S16x128 2#32))
            (broadcastTo S16x128 (shapeCast S1x128 (subf (subf d (extf .f32 (truncf .bf16 d h1) h1))
              (extf .f32 (truncf .bf16 (subf d (extf .f32 (truncf .bf16 d h1) h1)) h1) h1)) h3) h4)
            (broadcast S16x128 (FloatOps.ofBits .f32 0x00000000#32))))⟩] h9) h1

/-- The right factor: values beside zeros over zeros beside ones. -/
abbrev valuesOver (W : FVec Ideal S16x128 .bf16) (h1 : Shape.Concatenates [S16x128, S16x128] S16x256 1) (h2 : Shape.Concatenates [S16x256, S16x256] S32x256 0) : FVec Ideal S32x256 .bf16 :=
  concatenate S32x256 0
    [⟨S16x256, concatenate S16x256 1 [⟨S16x128, W⟩, ⟨S16x128, broadcast S16x128 (FloatOps.ofBits .bf16 0x0000#16)⟩] h1⟩,
     ⟨S16x256, concatenate S16x256 1 [⟨S16x128, broadcast S16x128 (FloatOps.ofBits .bf16 0x0000#16)⟩,
        ⟨S16x128, broadcast S16x128 (FloatOps.ofBits .bf16 0x3F80#16)⟩] h1⟩] h2

theorem keysOver_at (M : IVec S16x128 1) (U : FVec Ideal S16x128 .f32) (d : FVec Ideal S1x128 .f32) (h1) (h3) (h4) (h9) (r : Fin 32) (k : Fin 128) :
    keysOver M U d h1 h3 h4 h9 (ix2 r k)
      = if h : r.val < 16 then (if M (ix2 ⟨r.val, h⟩ k) = 1 then U (ix2 ⟨r.val, h⟩ k) else 0)
        else if r.val = 16 then d (ix2 0 k) else if r.val = 17 then d (ix2 0 k) - d (ix2 0 k)
        else if r.val = 18 then d (ix2 0 k) - d (ix2 0 k) - (d (ix2 0 k) - d (ix2 0 k)) else 0 := by
  pointwise
  split
  · rfl
  · rename_i h
    rcases r with ⟨r, hr⟩
    simp only [not_lt] at h
    obtain ⟨q, rfl⟩ := Nat.exists_eq_add_of_le h
    simp only [Nat.add_sub_cancel_left]
    obtain rfl | rfl | rfl | h3 : q = 0 ∨ q = 1 ∨ q = 2 ∨ 2 < q := by omega
    · rfl
    · rfl
    · rfl
    · have hq : q < 16 := by omega
      rw [if_neg (by omega), if_neg (by omega), if_neg (by omega)]
      have : ∀ q : Fin 16, 2 < q.val → IntOp.cmpi .eq (BitVec.ofNat 32 q.val) 0#32 = 0 ∧ IntOp.cmpi .eq (BitVec.ofNat 32 q.val) 1#32 = 0 ∧ IntOp.cmpi .eq (BitVec.ofNat 32 q.val) 2#32 = 0 := by decide
      obtain ⟨e0, e1, e2⟩ := this ⟨q, hq⟩ h3
      simp only [] at e0 e1 e2
      rw [e0, e1, e2]; rfl

theorem valuesOver_at (W : FVec Ideal S16x128 .bf16) (h1) (h2) (r : Fin 32) (c : Fin 256) :
    valuesOver W h1 h2 (ix2 r c)
      = if h : r.val < 16 then (if h' : c.val < 128 then W (ix2 ⟨r.val, h⟩ ⟨c.val, h'⟩) else 0)
        else if c.val < 128 then 0 else 1 := by
  pointwise
  by_cases h : r.val < 16 <;> by_cases h' : c.val < 128 <;> simp only [h, h', dif_pos, dif_neg, if_pos, if_neg, not_false_eq_true]

theorem product_at (A : FVec Ideal S32x128 .bf16) (B : FVec Ideal S32x256 .bf16) (k : Fin 128) (c : Fin 256) :
   matmul dot_S32x128_S32x256_S128x256_0_0_1_1_n_n none A B (constant S128x256 .f32 0x00000000#32) (ix2 k c) = ∑ r : Fin 32, A (ix2 r k) * B (ix2 r c) := by
  pointwise

/-- Four rows of sixteen. -/
theorem sum_own (j : ℕ) (hj : j < 4) (f : Fin 16 → EReal) (own : Fin 16 → BitVec 1) (W : Fin 16 → EReal)
    (hown : ∀ q : Fin 16, own q = if 4 * j ≤ q.val ∧ q.val < 4 * j + 4 then 1 else 0) :
    (∑ q : Fin 16, (if own q = 1 then f q else 0) * W q) = ∑ p : Fin 4, f ⟨4 * j + p.val, by omega⟩ * W ⟨4 * j + p.val, by omega⟩ := by
  symm
  refine Fintype.sum_of_injective (fun p : Fin 4 => (⟨4 * j + p.val, by omega⟩ : Fin 16)) ?_ _ _ ?_ ?_
  · intro p q h
    have := congrArg Fin.val h
    exact Fin.ext (by simpa using this)
  · intro q hq
    have : own q ≠ 1 := by
      rw [hown q, if_neg]
      · decide
      · rintro ⟨a, b⟩
        exact hq ⟨⟨q.val - 4 * j, by omega⟩, Fin.ext (by simp only []; omega)⟩
    rw [if_neg this, zero_mul]
  · intro p
    have : own ⟨4 * j + p.val, by omega⟩ = 1 := by
      rw [hown, if_pos]
      exact ⟨by simp only []; omega, by simp only []; omega⟩
    simp only [this, if_true]

theorem parts (x : EReal) (h : x ≠ ⊤) : x + (x - x) + (x - x - (x - x)) = x := by
  induction x with
  | bot => rfl
  | top => exact absurd rfl h
  | coe r => rw [← EReal.coe_sub, sub_self, ← EReal.coe_sub, sub_self, EReal.coe_zero, add_zero, add_zero]

theorem values_sum (M : IVec S16x128 1) (U : FVec Ideal S16x128 .f32) (d : FVec Ideal S1x128 .f32) (W : FVec Ideal S16x128 .bf16) (h1 h3 h4 h9 h5 h6)
    (j : ℕ) (hj : j < 4) (k : Fin 128)
    (hM : ∀ q : Fin 16, M (ix2 q k) = if 4 * j ≤ q.val ∧ q.val < 4 * j + 4 then 1 else 0) (v : Fin 128) :
    (∑ r : Fin 32, keysOver M U d h1 h3 h4 h9 (ix2 r k) * valuesOver W h5 h6 (ix2 r ⟨v.val, by omega⟩))
      = ∑ p : Fin 4, U (ix2 ⟨4 * j + p.val, by omega⟩ k) * W (ix2 ⟨4 * j + p.val, by omega⟩ v) := by
  simp only [keysOver_at, valuesOver_at]
  refine (Fin.sum_univ_add (a := 16) (b := 16) _).trans ?_
  have e2 : ∀ q : Fin 16, ¬ ((Fin.natAdd 16 q : Fin (16 + 16)) : ℕ) < 16 := fun q => by simp
  have e1 : ∀ q : Fin 16, ((Fin.castAdd 16 q : Fin (16 + 16)) : ℕ) < 16 := fun q => by simp
  simp only [e1, e2, v.isLt, dif_pos, dif_neg, if_pos, if_neg, not_false_eq_true, mul_zero, Finset.sum_const_zero, add_zero]
  exact sum_own j hj (fun q => U (ix2 q k)) (fun q => M (ix2 q k)) (fun q => W (ix2 q v)) hM

theorem decay_sum (M : IVec S16x128 1) (U : FVec Ideal S16x128 .f32) (d : FVec Ideal S1x128 .f32) (W : FVec Ideal S16x128 .bf16) (h1 h3 h4 h9 h5 h6)
    (k : Fin 128) (v : Fin 128) (hd : d (ix2 0 k) ≠ ⊤) :
    (∑ r : Fin 32, keysOver M U d h1 h3 h4 h9 (ix2 r k) * valuesOver W h5 h6 (ix2 r ⟨128 + v.val, by omega⟩)) = d (ix2 0 k) := by
  simp only [keysOver_at, valuesOver_at]
  refine (Fin.sum_univ_add (a := 16) (b := 16) _).trans ?_
  have e2 : ∀ q : Fin 16, ¬ ((Fin.natAdd 16 q : Fin (16 + 16)) : ℕ) < 16 := fun q => by simp
  have e1 : ∀ q : Fin 16, ((Fin.castAdd 16 q : Fin (16 + 16)) : ℕ) < 16 := fun q => by simp
  have e3 : ¬ 128 + v.val < 128 := by omega
  simp only [e1, e2, e3, dif_pos, dif_neg, if_pos, if_neg, not_false_eq_true, mul_zero, Finset.sum_const_zero, zero_add, mul_one]
  simp only [Fin.sum_univ_succ, Fin.val_natAdd]
  simp
  rw [← add_assoc]
  exact parts _ hd

theorem state_piece (M : IVec S16x128 1) (K V : FVec Ideal S64x128 .bf16) (B : FVec Ideal S192x1024 .f32) (st : FVec Ideal S1x1x128x128 .f32)
    (j rb R oh : ℕ) (h1 h3 h4 h9 h5 h6) (s1 : Shape.Slices S192x1024 ![128, oh] S64x128) (s2 : Shape.Slices S192x1024 ![0, oh] S64x128)
    (s3 : Shape.Slices S64x128 ![rb, 0] S16x128) (s4 : Shape.Slices S64x128 ![R, 0] S1x128) (s5 s6 c1 c2)
    (hj : j < 4) (hrb : rb + 16 ≤ 64) (hR : R < 64) (ho : oh + 128 ≤ 1024) (k : Fin 128) (v : Fin 128)
    (hM : ∀ q : Fin 16, M (ix2 q k) = if 4 * j ≤ q.val ∧ q.val < 4 * j + 4 then 1 else 0)
    (hd : Ideal.exp2 (B (ix2 ⟨128 + R, by omega⟩ ⟨oh + k.val, by omega⟩)) ≠ ⊤) :
    shapeCast S1x1x128x128 (addf
      (mulf (extractStridedSlice S128x128 ![0, 128] (matmul dot_S32x128_S32x256_S128x256_0_0_1_1_n_n none
        (keysOver M (extractStridedSlice S16x128 ![rb, 0] (mulf (extf .f32 K h1) (exp2 (subf (extractStridedSlice S64x128 ![128, oh] B s1) (extractStridedSlice S64x128 ![0, oh] B s2)))) s3)
          (extractStridedSlice S1x128 ![R, 0] (exp2 (extractStridedSlice S64x128 ![128, oh] B s1)) s4) h1 h3 h4 h9)
        (valuesOver (extractStridedSlice S16x128 ![rb, 0] V s3) h5 h6) (constant S128x256 .f32 0x00000000#32)) s5) (shapeCast S128x128 st c1))
      (extractStridedSlice S128x128 ![0, 0] (matmul dot_S32x128_S32x256_S128x256_0_0_1_1_n_n none
        (keysOver M (extractStridedSlice S16x128 ![rb, 0] (mulf (extf .f32 K h1) (exp2 (subf (extractStridedSlice S64x128 ![128, oh] B s1) (extractStridedSlice S64x128 ![0, oh] B s2)))) s3)
          (extractStridedSlice S1x128 ![R, 0] (exp2 (extractStridedSlice S64x128 ![128, oh] B s1)) s4) h1 h3 h4 h9)
        (valuesOver (extractStridedSlice S16x128 ![rb, 0] V s3) h5 h6) (constant S128x256 .f32 0x00000000#32)) s6)) c2 (ix4 0 0 k v)
      = Ideal.exp2 (B (ix2 ⟨128 + R, by omega⟩ ⟨oh + k.val, by omega⟩)) * st (ix4 0 0 k v)
        + ∑ p : Fin 4, K (ix2 ⟨rb + (4 * j + p.val), by omega⟩ k)
            * Ideal.exp2 (B (ix2 ⟨128 + (rb + (4 * j + p.val)), by omega⟩ ⟨oh + k.val, by omega⟩) - B (ix2 ⟨rb + (4 * j + p.val), by omega⟩ ⟨oh + k.val, by omega⟩))
            * V (ix2 ⟨rb + (4 * j + p.val), by omega⟩ v) := by
  generalize hA : keysOver _ _ _ _ _ _ _ = A
  generalize hW : valuesOver _ _ _ = W
  pointwise
  subst hA hW
  have ed : extractStridedSlice S1x128 ![R, 0] (exp2 (extractStridedSlice S64x128 ![128, oh] B s1)) s4 (ix2 0 k)
      = Ideal.exp2 (B (ix2 ⟨128 + R, by omega⟩ ⟨oh + k.val, by omega⟩)) := by pointwise; rfl
  refine congrArg₂ (· + ·) (congrArg (· * _) ((decay_sum M _ _ _ h1 h3 h4 h9 h5 h6 k v (by rw [ed]; exact hd)).trans ed)) ?_
  refine (values_sum M _ _ _ h1 h3 h4 h9 h5 h6 j hj k hM v).trans ?_
  refine Finset.sum_congr rfl fun p _ => ?_
  pointwise
  rfl

/-- A sequence's new state: the old one decayed over the whole sequence, and each row's key carried to the sequence's end times its value. -/
def stateAt (X0 : FVec Ideal S64x5120 .bf16) (B : FVec Ideal S192x1024 .f32) (X2 : FVec Ideal S16x8x128x128 .f32) (s : Fin 16) (h : Fin 8) (k v : Fin 128) : EReal :=
  Ideal.exp2 (B (ix2 ⟨128 + 4 * s.val, by omega⟩ ⟨128 * h.val + k.val, by omega⟩)) * X2 (ix4 s h k v)
    + ∑ p : Fin 4, X0 (ix2 ⟨4 * s.val + p.val, by omega⟩ ⟨1024 + (128 * h.val + k.val), by omega⟩)
        * Ideal.exp2 (B (ix2 ⟨128 + (4 * s.val + p.val), by omega⟩ ⟨128 * h.val + k.val, by omega⟩) - B (ix2 ⟨4 * s.val + p.val, by omega⟩ ⟨128 * h.val + k.val, by omega⟩))
        * X0 (ix2 ⟨4 * s.val + p.val, by omega⟩ ⟨2048 + (128 * h.val + v.val), by omega⟩)

theorem state_store (M : IVec S16x128 1) (K V : FVec Ideal S64x128 .bf16) (X0 : FVec Ideal S64x5120 .bf16) (B : FVec Ideal S192x1024 .f32) (X2 : FVec Ideal S16x8x128x128 .f32)
    (s h rb R oh : ℕ) (i3 : ∀ a : Fin S16x8x128x128.rank, (![s, h, 0, 0] : Fin S16x8x128x128.rank → ℕ) a + (![1, 1, 128, 128] : Fin S16x8x128x128.rank → ℕ) a ≤ S16x8x128x128.size a) (h1 h3 h4 h9 h5 h6) (s1 : Shape.Slices S192x1024 ![128, oh] S64x128) (s2 : Shape.Slices S192x1024 ![0, oh] S64x128)
    (s3 : Shape.Slices S64x128 ![rb, 0] S16x128) (s4 : Shape.Slices S64x128 ![R, 0] S1x128) (s5 s6 c1 c2)
    (y : S16x8x128x128.Idx) (x : S1x1x128x128.Idx) (hs : s < 16) (hh : h < 8)
    (hK : ∀ (r : Fin 64) (k : Fin 128), K (ix2 r k) = X0 (ix2 r ⟨1024 + (128 * h + k.val), by omega⟩))
    (hV : ∀ (r : Fin 64) (k : Fin 128), V (ix2 r k) = X0 (ix2 r ⟨2048 + (128 * h + k.val), by omega⟩))
    (hrb : rb + 4 * (s % 4) = 4 * s) (hR : R = 4 * s) (ho : oh = 128 * h)
    (y0 : (y 0).val = s + (x 0).val) (y1 : (y 1).val = h + (x 1).val) (y2 : (y 2).val = (x 2).val) (y3 : (y 3).val = (x 3).val)
    (hM : ∀ (q : Fin 16) (k : Fin 128), M (ix2 q k) = if 4 * (s % 4) ≤ q.val ∧ q.val < 4 * (s % 4) + 4 then 1 else 0)
    (hd : ∀ r k, Ideal.exp2 (B (ix2 r k)) ≠ ⊤) :
    shapeCast S1x1x128x128 (addf
      (mulf (extractStridedSlice S128x128 ![0, 128] (matmul dot_S32x128_S32x256_S128x256_0_0_1_1_n_n none
        (keysOver M (extractStridedSlice S16x128 ![rb, 0] (mulf (extf .f32 K h1) (exp2 (subf (extractStridedSlice S64x128 ![128, oh] B s1) (extractStridedSlice S64x128 ![0, oh] B s2)))) s3)
          (extractStridedSlice S1x128 ![R, 0] (exp2 (extractStridedSlice S64x128 ![128, oh] B s1)) s4) h1 h3 h4 h9)
        (valuesOver (extractStridedSlice S16x128 ![rb, 0] V s3) h5 h6) (constant S128x256 .f32 0x00000000#32)) s5)
          (shapeCast S128x128 (View.ld (Val := Elt Ideal) (S := S16x8x128x128) (e' := .f32) X2 (Rect.unit (s := S16x8x128x128) ![s, h, 0, 0] ![1, 1, 128, 128] i3)) c1))
      (extractStridedSlice S128x128 ![0, 0] (matmul dot_S32x128_S32x256_S128x256_0_0_1_1_n_n none
        (keysOver M (extractStridedSlice S16x128 ![rb, 0] (mulf (extf .f32 K h1) (exp2 (subf (extractStridedSlice S64x128 ![128, oh] B s1) (extractStridedSlice S64x128 ![0, oh] B s2)))) s3)
          (extractStridedSlice S1x128 ![R, 0] (exp2 (extractStridedSlice S64x128 ![128, oh] B s1)) s4) h1 h3 h4 h9)
        (valuesOver (extractStridedSlice S16x128 ![rb, 0] V s3) h5 h6) (constant S128x256 .f32 0x00000000#32)) s6)) c2 x
      = stateAt X0 B X2 (y 0) (y 1) (y 2) (y 3) := by
  obtain ⟨k, v, rfl⟩ : ∃ k v : Fin 128, x = ix4 0 0 k v := by
    refine ⟨x 2, x 3, funext fun a => ?_⟩
    fin_cases a
    · exact Subsingleton.elim (α := Fin 1) _ _
    · exact Subsingleton.elim (α := Fin 1) _ _
    · rfl
    · rfl
  obtain ⟨y0', y1', y2', y3', rfl⟩ : ∃ (a : Fin 16) (b : Fin 8) (k v : Fin 128), y = ix4 a b k v := by
    refine ⟨y 0, y 1, y 2, y 3, funext fun a => ?_⟩
    fin_cases a <;> rfl
  obtain rfl : y0' = ⟨s, hs⟩ := Fin.ext y0
  obtain rfl : y1' = ⟨h, hh⟩ := Fin.ext y1
  obtain rfl : y2' = k := Fin.ext y2
  obtain rfl : y3' = v := Fin.ext y3
  subst hR ho
  have hj : s % 4 < 4 := Nat.mod_lt _ (by decide)
  refine (state_piece M K V B _ (s % 4) rb (4 * s) (128 * h) h1 h3 h4 h9 h5 h6 s1 s2 s3 s4 s5 s6 c1 c2 hj (by omega) (by omega) (by omega) _ _ (fun q => hM q _) (hd _ _)).trans ?_
  refine congrArg₂ (· + ·) (congrArg₂ (· * ·) rfl ?_) (Finset.sum_congr rfl fun p _ => ?_)
  · refine View.ld_unit_apply_of (Val := Elt Ideal) (S := S16x8x128x128) (e := .f32) X2 _ _ _ _ _ fun a => ?_
    fin_cases a <;> simp [ix4]
  have e : rb + (4 * (s % 4) + p.val) = 4 * s + p.val := by omega
  rw [hK, hV]
  simp only [e]
  rfl

theorem rows_at (X0 : FVec Ideal S64x5120 .bf16) (o : ℕ) (inb) (r : Fin 64) (k : Fin 128) (o' : Fin 5120) (h : o'.val = o + k.val) :
    View.ld (Val := Elt Ideal) (S := S64x5120) (e' := .bf16) X0 (Rect.unit (s := S64x5120) ![0, o] ![64, 128] inb) (ix2 (n0 := 64) (n1 := 128) r k) = X0 (ix2 r o') := by
  refine View.ld_unit_apply_of (Val := Elt Ideal) (S := S64x5120) (e := .bf16) X0 _ _ _ _ _ fun a => ?_
  fin_cases a
  · simp [ix2]
  · simpa [ix2] using h

set_option maxHeartbeats 0 in
/-- Every piece of the state window is one sequence and head of `stateAt`. -/
theorem states_at (c : Dev nD) (i : grid0.Coords) (arg1 : Memref sig .tc .vmem S64x5120 .bf16) (harg1 : arg1.IsWhole) (arg2 : Memref sig .tc .vmem S64x2048 .f32) (harg2 : arg2.IsWhole) (arg3 : Memref sig .tc .vmem S16x8x128x128 .f32) (harg3 : arg3.IsWhole) (arg4 : Memref sig .tc .vmem S16x2x1024 .f32) (harg4 : arg4.IsWhole) (arg5 : Memref sig .tc .vmem S1x1024 .f32) (harg5 : arg5.IsWhole) (arg6 : Memref sig .tc .vmem S3x1024 .f32) (harg6 : arg6.IsWhole) (arg7 : Memref sig .tc .vmem S192x192 .bf16) (harg7 : arg7.IsWhole) (arg8 : Memref sig .tc .vmem S64x64 .f32) (harg8 : arg8.IsWhole) (arg9 : Memref sig .tc .vmem S64x2048 .bf16) (harg9 : arg9.IsWhole) (arg10 : Memref sig .tc .vmem S16x8x128x128 .f32) (harg10 : arg10.IsWhole) (arg11 : Memref sig .tc .vmem S16x2x1024 .f32) (harg11 : arg11.IsWhole) (arg12 : Memref sig .tc .vmem S128x1024 .f32) (harg12 : arg12.IsWhole) (arg13 : Memref sig .tc .vmem S64x1024 .f32) (harg13 : arg13.IsWhole)
    (x0 : Vec Ideal S64x5120 .bf16) (x1 : Vec Ideal S64x2048 .f32) (x2 : Vec Ideal S16x8x128x128 .f32) (x3 : Vec Ideal S16x2x1024 .f32) (x4 : Vec Ideal S1x1024 .f32) (x5 : Vec Ideal S3x1024 .f32) (x6 : Vec Ideal S192x192 .bf16) (x7 : Vec Ideal S64x64 .f32) (y : S16x8x128x128.Idx)
    (X0 : FVec Ideal S64x5120 .bf16) (B : FVec Ideal S192x1024 .f32)
    (hX0 : View.read (Elt Ideal) arg1.view (harg1.unread x0) = X0)
    (hB : k0_pay73 (F := Ideal) (View.ld (View.read (Elt Ideal) arg7.view (harg7.unread x6)) (Rect.unit ![0, 0] ![192, 192] inb_S192x192_S192x192_0_0))
        (View.ld (View.read (Elt Ideal) arg2.view (harg2.unread x1)) (Rect.unit ![0, 0] ![64, 1024] inb_S64x2048_S64x1024_0_0)) = B)
    (hd : ∀ (r : Fin 192) (k : Fin 1024), Ideal.exp2 (B (ix2 r k)) ≠ ⊤) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
      = stateAt X0 B x2 (y 0) (y 1) (y 2) (y 3) := by
  unfold out0_A_9
  rw [View.read_writes_junk_eq_canon]
  dsimp only [kernelRun0_A]
  canon_tiles x e using cover0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
  all_goals
    frame_out
    refine (state_store (X0 := View.read (Elt Ideal) arg1.view (harg1.unread x0)) (X2 := x2) (x := x) (y := y)
      (y0 := by omega) (y1 := by omega) (y2 := by omega) (y3 := by omega) (hs := by omega) (hh := by omega) (hrb := by omega) (hR := by omega) (ho := by omega)
      (hM := by intro q k; open_payloads; pointwise; revert q; decide) (hd := by subst hB; exact hd)
      (hK := by exact fun r k => rows_at _ _ _ r k _ (by simp only []; omega))
      (hV := by exact fun r k => rows_at _ _ _ r k _ (by simp only []; omega)) ..).trans (by subst hX0 hB; rfl)

end Cert.KernelIdeal.Mine

end
-- ==== Proof.Mix.Scratch.lean ====
module

public import proofs.«01_k».proof.Proof.Gen.KernelIdeal.Value
public import Idealize.ShloMosaic.Lib.Pipeline.ValueKit
public import Idealize.ShloMosaic.Lib.Pipeline.ValueKit.Tiles

/-!
# The two scratch arrays of the short convolution

The kernel lays out each sequence's two remembered rows and its four new rows one under another, eight rows a
sequence, and reads three shifted windows of four rows back.
-/

@[expose] public section

set_option maxRecDepth 100000

noncomputable section

namespace Cert.KernelIdeal.Mine

open Cert.KernelIdeal Cert.KernelIdeal.Gen Idealize.ShloMosaic Idealize.ShloMosaic.TcCoe Idealize.ShloMosaic.Tactic Idealize.SL.Sem

/-- Row `p` of the six rows that sequence `s` is convolved over: the two remembered ones, then the four new ones. -/
def longRow (X1 : FVec Ideal S64x2048 .f32) (X3 : FVec Ideal S16x2x1024 .f32) (s : Fin 16) (p : Fin 6) (k : Fin 1024) :
    Elt Ideal .f32 :=
  if h : p.val < 2 then X3 (ix3 s ⟨p.val, h⟩ k) else X1 (ix2 ⟨4 * s.val + (p.val - 2), by omega⟩ ⟨1024 + k.val, by omega⟩)

theorem fits_new {n : Nat} (h : n < 16) : ∀ a, (![8 * n + 2, 0] : Fin 2 → Nat) a + (![4, 1024] : Fin 2 → Nat) a ≤ S128x1024.size a := by
  intro a
  fin_cases a <;> simp [S128x1024] <;> omega

theorem fits_old {n : Nat} (h : n < 16) : ∀ a, (![8 * n, 0] : Fin 2 → Nat) a + (![2, 1024] : Fin 2 → Nat) a ≤ S128x1024.size a := by
  intro a
  fin_cases a <;> simp [S128x1024] <;> omega

theorem fits_src {n : Nat} (h : n < 16) : ∀ a, (![4 * n, 1024] : Fin 2 → Nat) a + (![4, 1024] : Fin 2 → Nat) a ≤ S64x2048.size a := by
  intro a
  fin_cases a <;> simp [S64x2048] <;> omega

theorem fits_buf {n : Nat} (h : n < 16) : ∀ a, (![n, 0, 0] : Fin 3 → Nat) a + (![1, 2, 1024] : Fin 3 → Nat) a ≤ S16x2x1024.size a := by
  intro a
  fin_cases a <;> simp [S16x2x1024] <;> omega

theorem fits_tap {n o : Nat} (h : n < 16) (ho : o ≤ 4) :
    ∀ a, (![8 * n + o, 0] : Fin 2 → Nat) a + (![4, 1024] : Fin 2 → Nat) a ≤ S128x1024.size a := by
  intro a
  fin_cases a <;> simp [S128x1024] <;> omega

theorem fits_out {n : Nat} (h : n < 16) : ∀ a, (![4 * n, 0] : Fin 2 → Nat) a + (![4, 1024] : Fin 2 → Nat) a ≤ S64x1024.size a := by
  intro a
  fin_cases a <;> simp [S64x1024] <;> omega

/-- Sequence `n`'s four new rows, as they are laid. -/
def newRows (X1 : FVec Ideal S64x2048 .f32) (n : Nat) (h : n < 16) : View.Piece (Elt Ideal) S128x1024 .f32 :=
  ⟨Rect.unit ![8 * n + 2, 0] ![4, 1024] (fits_new h),
    shapeCast S4x1024 (View.ld X1 (Rect.unit (s := S64x2048) ![4 * n, 1024] ![4, 1024] (fits_src h))) (show (⟨2, ![4, 1024]⟩ : Shape).ShapeCasts S4x1024 by decide)⟩

/-- Sequence `n`'s two remembered rows, as they are laid. -/
def oldRows (X3 : FVec Ideal S16x2x1024 .f32) (n : Nat) (h : n < 16) : View.Piece (Elt Ideal) S128x1024 .f32 :=
  ⟨Rect.unit ![8 * n, 0] ![2, 1024] (fits_old h),
    shapeCast S2x1024 (shapeCast S2x1024 (View.ld X3 (Rect.unit (s := S16x2x1024) ![n, 0, 0] ![1, 2, 1024] (fits_buf h))) (show (⟨3, ![1, 2, 1024]⟩ : Shape).ShapeCasts S2x1024 by decide)) (by decide)⟩

/-- What the first scratch array is given, a sequence at a time, the last sequence first. -/
def layRows (X1 : FVec Ideal S64x2048 .f32) (X3 : FVec Ideal S16x2x1024 .f32) :
    (n : Nat) → n ≤ 16 → List (View.Piece (Elt Ideal) S128x1024 .f32)
  | 0, _ => []
  | n + 1, h => newRows X1 n h :: oldRows X3 n h :: layRows X1 X3 n (Nat.le_of_succ_le h)

theorem layRows_succ (X1 : FVec Ideal S64x2048 .f32) (X3 : FVec Ideal S16x2x1024 .f32) (n : Nat) (h : n + 1 ≤ 16) :
    layRows X1 X3 (n + 1) h = newRows X1 n h :: oldRows X3 n h :: layRows X1 X3 n (Nat.le_of_succ_le h) :=
  rfl

theorem cast_same (Z : FVec Ideal S4x1024 .f32) (h) (p : Fin 4) (k : Fin 1024) : shapeCast S4x1024 Z h (ix2 p k) = Z (ix2 p k) := by
  pointwise

theorem cast_flat (Z : FVec Ideal ⟨3, ![1, 2, 1024]⟩ .f32) (h h') (p : Fin 2) (k : Fin 1024) :
    shapeCast S2x1024 (shapeCast S2x1024 Z h) h' (ix2 p k) = Z (ix3 (0 : Fin 1) p k) := by
  pointwise

theorem newRows_at (X1 : FVec Ideal S64x2048 .f32) (n : Nat) (h : n < 16) (p : Fin 4) (k : Fin 1024) :
    (newRows X1 n h).2 (ix2 p k) = X1 (ix2 ⟨4 * n + p.val, by omega⟩ ⟨1024 + k.val, by omega⟩) := by
  have := View.ld_unit_apply_of (Val := Elt Ideal) (S := S64x2048) (e := .f32) X1 _ _ (fits_src h)
    (ix2 p k) (ix2 ⟨4 * n + p.val, by omega⟩ ⟨1024 + k.val, by omega⟩) fun a => by fin_cases a <;> simp [ix2]
  exact (cast_same _ _ p k).trans this

theorem oldRows_at (X3 : FVec Ideal S16x2x1024 .f32) (n : Nat) (h : n < 16) (p : Fin 2) (k : Fin 1024) :
    (oldRows X3 n h).2 (ix2 p k) = X3 (ix3 ⟨n, h⟩ p k) := by
  have := View.ld_unit_apply_of (Val := Elt Ideal) (S := S16x2x1024) (e := .f32) X3 _ _ (fits_buf h)
    (ix3 (0 : Fin 1) p k) (ix3 ⟨n, h⟩ p k) fun a => by fin_cases a <;> simp [ix3]
  exact (cast_flat _ _ _ p k).trans this

theorem layRows_at (X1 : FVec Ideal S64x2048 .f32) (X3 : FVec Ideal S16x2x1024 .f32) (s : Fin 16) (p : Fin 6) (k : Fin 1024)
    (y : S128x1024.Idx) (h0 : (y 0).val = 8 * s.val + p.val) (h1 : (y 1).val = k.val) :
    ∀ (n : Nat) (h : n ≤ 16), s.val < n → View.canon (layRows X1 X3 n h) y = longRow X1 X3 s p k
  | n + 1, h, hs => by
    rw [layRows_succ]
    by_cases hn : s.val = n
    · by_cases hp : p.val < 2
      · have hm : y ∉ (newRows X1 n h).1.set := by
          show y ∉ (Rect.unit (s := S128x1024) ![8 * n + 2, 0] ![4, 1024] (fits_new h)).set
          rw [Rect.mem_set_unit]
          intro hh
          have := (hh 0).1
          simp at this
          omega
        rw [View.canon_cons_of_not_mem _ _ hm]
        have he : y = (oldRows X3 n h).1.emb (ix2 ⟨p.val, hp⟩ k) := by
          funext a
          apply Fin.ext
          fin_cases a
          · show (y 0).val = 8 * n + 1 * p.val
            omega
          · show (y 1).val = 0 + 1 * k.val
            omega
        rw [he]
        refine (View.canon_cons_emb _ _ _ _).trans ((oldRows_at X3 n h ⟨p.val, hp⟩ k).trans ?_)
        subst hn
        rw [longRow, dif_pos hp]
      · have he : y = (newRows X1 n h).1.emb (ix2 (⟨p.val - 2, by omega⟩ : Fin 4) k) := by
          funext a
          apply Fin.ext
          fin_cases a
          · show (y 0).val = 8 * n + 2 + 1 * (p.val - 2)
            omega
          · show (y 1).val = 0 + 1 * k.val
            omega
        rw [he]
        refine (View.canon_cons_emb _ _ _ _).trans ((newRows_at X1 n h ⟨p.val - 2, by omega⟩ k).trans ?_)
        subst hn
        rw [longRow, dif_neg hp]
    · have h1' : y ∉ (newRows X1 n h).1.set := by
        show y ∉ (Rect.unit (s := S128x1024) ![8 * n + 2, 0] ![4, 1024] (fits_new h)).set
        rw [Rect.mem_set_unit]
        intro hh
        have := (hh 0).1
        simp at this
        omega
      have h2' : y ∉ (oldRows X3 n h).1.set := by
        show y ∉ (Rect.unit (s := S128x1024) ![8 * n, 0] ![2, 1024] (fits_old h)).set
        rw [Rect.mem_set_unit]
        intro hh
        have := (hh 0).1
        simp at this
        omega
      rw [View.canon_cons_of_not_mem _ _ h1', View.canon_cons_of_not_mem _ _ h2']
      exact layRows_at X1 X3 s p k y h0 h1 n (by omega) (by omega)

/-- A window of rows of the first scratch array, read back. -/
theorem window_at {sig' : RefSig} {κ : Kind} {sp : Space} (w : View sig' κ sp S128x1024 .f32) (X1 : FVec Ideal S64x2048 .f32)
    (X3 : FVec Ideal S16x2x1024 .f32) (o m : Nat) (inb) (s : Fin 16) (j : Fin m) (p : Fin 6) (k : Fin 1024)
    (h : o + j.val = 8 * s.val + p.val) :
    w.readCov (layRows X1 X3 16 (by omega)) (Rect.unit (s := S128x1024) ![o, 0] ![m, 1024] inb).toLoadRect (ix2 j k)
      = longRow X1 X3 s p k := by
  rw [View.readCov_eq_canon']
  refine layRows_at X1 X3 s p k _ ?_ ?_ 16 (by omega) s.isLt
  · show o + 1 * j.val = _
    omega
  · show 0 + 1 * k.val = _
    omega

/-- Entry `k` of row `q` of sequence `s`'s convolution: three taps. -/
def convAt (X1 : FVec Ideal S64x2048 .f32) (X3 : FVec Ideal S16x2x1024 .f32) (X5 : FVec Ideal S3x1024 .f32) (s : Fin 16)
    (q : Fin 4) (k : Fin 1024) : EReal :=
  X5 (ix2 (0 : Fin 3) k) * longRow X1 X3 s ⟨q.val, by omega⟩ k + X5 (ix2 (1 : Fin 3) k) * longRow X1 X3 s ⟨q.val + 1, by omega⟩ k
    + X5 (ix2 (2 : Fin 3) k) * longRow X1 X3 s ⟨q.val + 2, by omega⟩ k

/-- The convolved rows of one sequence as the kernel computes them. -/
def convBlock {sig' : RefSig} {κ : Kind} {sp : Space} (w : View sig' κ sp S128x1024 .f32) (X1 : FVec Ideal S64x2048 .f32)
    (X3 : FVec Ideal S16x2x1024 .f32) (X5 : FVec Ideal S3x1024 .f32) (n : Nat) (h : n < 16) : FVec Ideal S4x1024 .f32 :=
  shapeCast S4x1024
    (addf (addf
      (mulf (broadcastTo S4x1024 (extractStridedSlice S1x1024 ![0, 0] X5 (by decide)) (by decide))
        (w.readCov (layRows X1 X3 16 (by omega)) (Rect.unit (s := S128x1024) ![8 * n + 0, 0] ![4, 1024] (fits_tap h (by decide))).toLoadRect))
      (mulf (broadcastTo S4x1024 (extractStridedSlice S1x1024 ![1, 0] X5 (by decide)) (by decide))
        (w.readCov (layRows X1 X3 16 (by omega)) (Rect.unit (s := S128x1024) ![8 * n + 1, 0] ![4, 1024] (fits_tap h (by decide))).toLoadRect)))
      (mulf (broadcastTo S4x1024 (extractStridedSlice S1x1024 ![2, 0] X5 (by decide)) (by decide))
        (w.readCov (layRows X1 X3 16 (by omega)) (Rect.unit (s := S128x1024) ![8 * n + 2, 0] ![4, 1024] (fits_tap h (by decide))).toLoadRect)))
    (by decide)

theorem convBlock_at {sig' : RefSig} {κ : Kind} {sp : Space} (w : View sig' κ sp S128x1024 .f32) (X1 : FVec Ideal S64x2048 .f32)
    (X3 : FVec Ideal S16x2x1024 .f32) (X5 : FVec Ideal S3x1024 .f32) (n : Nat) (h : n < 16) (q : Fin 4) (k : Fin 1024) :
    convBlock w X1 X3 X5 n h (ix2 q k) = convAt X1 X3 X5 ⟨n, h⟩ q k := by
  have w0 := window_at w X1 X3 (8 * n + 0) 4 (fits_tap h (by decide)) ⟨n, h⟩ q ⟨q.val, by omega⟩ k rfl
  have w1 := window_at w X1 X3 (8 * n + 1) 4 (fits_tap h (by decide)) ⟨n, h⟩ q ⟨q.val + 1, by omega⟩ k (by simp; omega)
  have w2 := window_at w X1 X3 (8 * n + 2) 4 (fits_tap h (by decide)) ⟨n, h⟩ q ⟨q.val + 2, by omega⟩ k (by simp; omega)
  unfold convBlock convAt
  rw [← w0, ← w1, ← w2]
  pointwise

/-- What the second scratch array is given. -/
def layConv {sig' : RefSig} {κ : Kind} {sp : Space} (w : View sig' κ sp S128x1024 .f32) (X1 : FVec Ideal S64x2048 .f32)
    (X3 : FVec Ideal S16x2x1024 .f32) (X5 : FVec Ideal S3x1024 .f32) :
    (n : Nat) → n ≤ 16 → List (View.Piece (Elt Ideal) S64x1024 .f32)
  | 0, _ => []
  | n + 1, h =>
    ⟨Rect.unit ![4 * n, 0] ![4, 1024] (fits_out h), convBlock w X1 X3 X5 n h⟩ ::
    layConv w X1 X3 X5 n (Nat.le_of_succ_le h)

theorem layConv_at {sig' : RefSig} {κ : Kind} {sp : Space} (w : View sig' κ sp S128x1024 .f32) (X1 : FVec Ideal S64x2048 .f32)
    (X3 : FVec Ideal S16x2x1024 .f32) (X5 : FVec Ideal S3x1024 .f32) (s : Fin 16) (q : Fin 4) (k : Fin 1024)
    (y : S64x1024.Idx) (h0 : (y 0).val = 4 * s.val + q.val) (h1 : (y 1).val = k.val) :
    ∀ (n : Nat) (h : n ≤ 16), s.val < n → View.canon (layConv w X1 X3 X5 n h) y = convAt X1 X3 X5 s q k
  | n + 1, h, hs => by
    by_cases hn : s.val = n
    · have he : y = (Rect.unit (s := S64x1024) ![4 * n, 0] ![4, 1024] (fits_out h)).emb (ix2 q k) := by
        funext a
        apply Fin.ext
        fin_cases a
        · show (y 0).val = 4 * n + 1 * q.val
          omega
        · show (y 1).val = 0 + 1 * k.val
          omega
      rw [he]
      refine (View.canon_cons_emb _ _ _ _).trans ?_
      subst hn
      exact convBlock_at w X1 X3 X5 s.val h q k
    · rw [layConv, View.canon_cons_of_not_mem]
      · exact layConv_at w X1 X3 X5 s q k y h0 h1 n (by omega) (by omega)
      · rw [Rect.mem_set_unit]
        intro hh
        have := (hh 0).1
        simp at this
        omega

theorem layConv_read {sig' sig'' : RefSig} {κ κ' : Kind} {sp sp' : Space} (w' : View sig'' κ' sp' S64x1024 .f32)
    (w : View sig' κ sp S128x1024 .f32) (X1 : FVec Ideal S64x2048 .f32)
    (X3 : FVec Ideal S16x2x1024 .f32) (X5 : FVec Ideal S3x1024 .f32) (inb) (s : Fin 16) (q : Fin 4) (k : Fin 1024) :
    w'.readCov (layConv w X1 X3 X5 16 (by omega)) (Rect.unit (s := S64x1024) ![0, 0] ![64, 1024] inb).toLoadRect
        (ix2 ⟨4 * s.val + q.val, by omega⟩ k) = convAt X1 X3 X5 s q k := by
  rw [View.readCov_eq_canon']
  refine layConv_at w X1 X3 X5 s q k _ ?_ ?_ 16 (by omega) s.isLt
  · show 0 + 1 * (4 * s.val + q.val) = _
    omega
  · show 0 + 1 * k.val = _
    omega

end Cert.KernelIdeal.Mine

end
-- ==== Proof.Mix.Heads.lean ====
module

public import proofs.«01_k».proof.Proof.Gen.KernelIdeal.Value
public import proofs.«01_k».proof.Proof.Mix.State
public import proofs.«01_k».proof.Proof.Mix.Scratch
public import Idealize.ShloMosaic.Lib.Pipeline.ValueKit
public import Idealize.ShloMosaic.Lib.Pipeline.ValueKit.Tiles

/-!
# The mixer's rows: attention within a sequence, what the old state adds, and the norm
-/

@[expose] public section

set_option maxRecDepth 100000

noncomputable section

namespace Cert.KernelIdeal.Mine

open Cert.KernelIdeal Cert.KernelIdeal.Gen Idealize.ShloMosaic Idealize.ShloMosaic.TcCoe Idealize.ShloMosaic.Tactic Idealize.SL.Sem

/-- How row `r` attends to row `r'` in head `h`: both decayed from the middle of the sequence. -/
def scoreAt (X0 : FVec Ideal S64x5120 .bf16) (B : FVec Ideal S192x1024 .f32) (h : Fin 8) (r r' : Fin 64) : EReal :=
  ∑ k : Fin 128, X0 (ix2 r ⟨128 * h.val + k.val, by omega⟩)
      * Ideal.exp2 (B (ix2 ⟨r.val, by omega⟩ ⟨128 * h.val + k.val, by omega⟩) - B (ix2 ⟨64 + r.val, by omega⟩ ⟨128 * h.val + k.val, by omega⟩))
    * (X0 (ix2 r' ⟨1024 + (128 * h.val + k.val), by omega⟩)
      * Ideal.exp2 (B (ix2 ⟨64 + r'.val, by omega⟩ ⟨128 * h.val + k.val, by omega⟩) - B (ix2 ⟨r'.val, by omega⟩ ⟨128 * h.val + k.val, by omega⟩)))

/-- Row `p` of sequence `s` in head `h` before the norm: what its own and earlier rows give, and what the old state gives. -/
def mixedAt (X0 : FVec Ideal S64x5120 .bf16) (B : FVec Ideal S192x1024 .f32) (X2 : FVec Ideal S16x8x128x128 .f32) (s : Fin 16) (p : Fin 4)
    (h : Fin 8) (v : Fin 128) : EReal :=
  (∑ p' : Fin 4, (if p'.val ≤ p.val then scoreAt X0 B h ⟨4 * s.val + p.val, by omega⟩ ⟨4 * s.val + p'.val, by omega⟩ else 0)
      * X0 (ix2 ⟨4 * s.val + p'.val, by omega⟩ ⟨2048 + (128 * h.val + v.val), by omega⟩))
    + ∑ k : Fin 128, X0 (ix2 ⟨4 * s.val + p.val, by omega⟩ ⟨128 * h.val + k.val, by omega⟩)
        * Ideal.exp2 (B (ix2 ⟨4 * s.val + p.val, by omega⟩ ⟨128 * h.val + k.val, by omega⟩)) * X2 (ix4 s h k v)

/-- One over the root of a mean square, a small number added under the root. -/
def overRoot (m : EReal) : EReal :=
  FloatOps.rsqrt (F := Ideal) (φ := .f32) (FloatOps.addf (F := Ideal) (φ := .f32)
    (FloatOps.divf (F := Ideal) (φ := .f32) m (FloatOps.ofBits .f32 0x43000000#32)) (FloatOps.ofBits .f32 0x358637BD#32))

/-- The row as stored: normed, scaled and gated. -/
def headAt (X0 : FVec Ideal S64x5120 .bf16) (B : FVec Ideal S192x1024 .f32) (X2 : FVec Ideal S16x8x128x128 .f32) (X4 : FVec Ideal S1x1024 .f32)
    (s : Fin 16) (p : Fin 4) (h : Fin 8) (v : Fin 128) : EReal :=
  mixedAt X0 B X2 s p h v * overRoot (∑ v' : Fin 128, mixedAt X0 B X2 s p h v' * mixedAt X0 B X2 s p h v')
    * X4 (ix2 (0 : Fin 1) ⟨128 * h.val + v.val, by omega⟩) * X0 (ix2 ⟨4 * s.val + p.val, by omega⟩ ⟨3072 + (128 * h.val + v.val), by omega⟩)

theorem sum_rows (s : Fin 16) (p : Fin 4) (f g : Fin 64 → EReal) :
    (∑ r : Fin 64, (if r.val / 4 = s.val ∧ r.val % 4 ≤ p.val then f r else 0) * g r)
      = ∑ p' : Fin 4, (if p'.val ≤ p.val then f ⟨4 * s.val + p'.val, by omega⟩ else 0) * g ⟨4 * s.val + p'.val, by omega⟩ := by
  symm
  refine Fintype.sum_of_injective (fun p' : Fin 4 => (⟨4 * s.val + p'.val, by omega⟩ : Fin 64)) ?_ _ _ ?_ ?_
  · intro a b h
    have := congrArg Fin.val h
    exact Fin.ext (by simpa using this)
  · intro r hr
    rw [if_neg, zero_mul]
    rintro ⟨a, -⟩
    exact hr ⟨⟨r.val % 4, by omega⟩, Fin.ext (by simp only []; omega)⟩
  · intro p'
    have e1 : (4 * s.val + p'.val) / 4 = s.val := by omega
    have e2 : (4 * s.val + p'.val) % 4 = p'.val := by omega
    simp only [e1, e2, true_and]

/-- A sequence's queries against its old state, in a group of sixteen rows whose other rows are zero. -/
abbrev fromState (M : IVec S16x128 1) (U : FVec Ideal S16x128 .f32) (st : FVec Ideal S1x1x128x128 .f32) (h1 : FTy.bf16.bits < FTy.f32.bits)
    (c1 : S1x1x128x128.ShapeCasts S128x128) : FVec Ideal S16x128 .f32 :=
  matmul dot_S16x128_S128x128_S16x128_1_0_0_1_n_n none (truncf .bf16 (select M U (broadcast S16x128 (FloatOps.ofBits .f32 0x00000000#32))) h1)
    (truncf .bf16 (shapeCast S128x128 st c1) h1) (constant S16x128 .f32 0x00000000#32)

theorem fromState_at (M : IVec S16x128 1) (U : FVec Ideal S16x128 .f32) (st : FVec Ideal S1x1x128x128 .f32) (h1 c1) (j : ℕ)
    (hM : ∀ (q : Fin 16) (k : Fin 128), M (ix2 q k) = if 4 * j ≤ q.val ∧ q.val < 4 * j + 4 then 1 else 0) (q : Fin 16) (v : Fin 128) :
    fromState M U st h1 c1 (ix2 q v) = if q.val / 4 = j then ∑ k : Fin 128, U (ix2 q k) * st (ix4 0 0 k v) else 0 := by
  pointwise
  simp only [hM]
  by_cases h : q.val / 4 = j
  · rw [if_pos h]
    have : 4 * j ≤ q.val ∧ q.val < 4 * j + 4 := by omega
    simp only [this, and_self, if_true]
    rfl
  · rw [if_neg h]
    have : ¬ (4 * j ≤ q.val ∧ q.val < 4 * j + 4) := by omega
    simp only [this, if_false]
    refine Finset.sum_eq_zero fun k _ => ?_
    rfl

/-- The scores of one head, and the sums of values they weigh. -/
abbrev within (W : IVec S64x64 1) (Q K V : FVec Ideal S64x128 .bf16) (B : FVec Ideal S192x1024 .f32) (oh : ℕ) (h1 : FTy.bf16.bits < FTy.f32.bits)
    (s1 : Shape.Slices S192x1024 ![64, oh] S64x128) (s2 : Shape.Slices S192x1024 ![0, oh] S64x128) : FVec Ideal S64x128 .f32 :=
  matmul dot_S64x64_S64x128_S64x128_1_0_0_1_n_n none (truncf .bf16 (select W
    (matmul dot_S64x128_S64x128_S64x64_1_1_0_0_n_n none
      (truncf .bf16 (mulf (extf .f32 Q h1) (exp2 (subf (extractStridedSlice S64x128 ![0, oh] B s2) (extractStridedSlice S64x128 ![64, oh] B s1)))) h1)
      (truncf .bf16 (mulf (extf .f32 K h1) (exp2 (subf (extractStridedSlice S64x128 ![64, oh] B s1) (extractStridedSlice S64x128 ![0, oh] B s2)))) h1)
      (constant S64x64 .f32 0x00000000#32)) (broadcast S64x64 (FloatOps.ofBits .f32 0x00000000#32))) h1) V (constant S64x128 .f32 0x00000000#32)

theorem within_at (W : IVec S64x64 1) (Q K V : FVec Ideal S64x128 .bf16) (X0 : FVec Ideal S64x5120 .bf16) (B : FVec Ideal S192x1024 .f32) (oh : ℕ) (h1 s1 s2)
    (h : Fin 8) (ho : oh = 128 * h.val)
    (hW : ∀ r r' : Fin 64, W (ix2 r r') = if r'.val / 4 = r.val / 4 ∧ r'.val % 4 ≤ r.val % 4 then 1 else 0)
    (hQ : ∀ (r : Fin 64) (k : Fin 128), Q (ix2 r k) = X0 (ix2 r ⟨128 * h.val + k.val, by omega⟩))
    (hK : ∀ (r : Fin 64) (k : Fin 128), K (ix2 r k) = X0 (ix2 r ⟨1024 + (128 * h.val + k.val), by omega⟩))
    (hV : ∀ (r : Fin 64) (k : Fin 128), V (ix2 r k) = X0 (ix2 r ⟨2048 + (128 * h.val + k.val), by omega⟩))
    (s : Fin 16) (p : Fin 4) (v : Fin 128) :
    within W Q K V B oh h1 s1 s2 (ix2 ⟨4 * s.val + p.val, by omega⟩ v)
      = ∑ p' : Fin 4, (if p'.val ≤ p.val then scoreAt X0 B h ⟨4 * s.val + p.val, by omega⟩ ⟨4 * s.val + p'.val, by omega⟩ else 0)
          * X0 (ix2 ⟨4 * s.val + p'.val, by omega⟩ ⟨2048 + (128 * h.val + v.val), by omega⟩) := by
  subst ho
  pointwise
  refine Eq.trans ?_ (sum_rows s p (fun r' => scoreAt X0 B h ⟨4 * s.val + p.val, by omega⟩ r') (fun r' => X0 (ix2 r' ⟨2048 + (128 * h.val + v.val), by omega⟩)))
  refine Finset.sum_congr rfl fun r' _ => ?_
  have e1 : (4 * s.val + p.val) / 4 = s.val := by omega
  have e2 : (4 * s.val + p.val) % 4 = p.val := by omega
  simp only [hW, hV, e1, e2]
  by_cases hc : r'.val / 4 = s.val ∧ r'.val % 4 ≤ p.val
  · simp only [hc, and_self, if_true]
    unfold scoreAt
    simp only [hQ, hK]
    rfl
  · simp only [hc, if_false, zero_mul]
    rfl

/-- Four sequences, one of which a row belongs to. -/
theorem pick (a : EReal) (j : ℕ) (hj : j < 4) (f : Fin 4 → EReal) :
    a + (if j = 0 then f 0 else 0) + (if j = 1 then f 1 else 0) + (if j = 2 then f 2 else 0) + (if j = 3 then f 3 else 0) = a + f ⟨j, hj⟩ := by
  obtain rfl | rfl | rfl | rfl : j = 0 ∨ j = 1 ∨ j = 2 ∨ j = 3 := by omega
  all_goals simp
  all_goals rfl

/-- A group's rows before the norm. -/
abbrev groupRows (M0 M1 M2 M3 : IVec S16x128 1) (T0 T1 T2 T3 : FVec Ideal S1x1x128x128 .f32) (W : IVec S64x64 1) (Q K V : FVec Ideal S64x128 .bf16)
    (B : FVec Ideal S192x1024 .f32) (oh rb : ℕ) (h1 : FTy.bf16.bits < FTy.f32.bits) (c1 : S1x1x128x128.ShapeCasts S128x128)
    (s1 : Shape.Slices S192x1024 ![64, oh] S64x128) (s2 : Shape.Slices S192x1024 ![0, oh] S64x128) (s3 : Shape.Slices S64x128 ![rb, 0] S16x128) : FVec Ideal S16x128 .f32 :=
  addf (addf (addf (addf (extractStridedSlice S16x128 ![rb, 0] (within W Q K V B oh h1 s1 s2) s3)
    (fromState M0 (extractStridedSlice S16x128 ![rb, 0] (mulf (extf .f32 Q h1) (exp2 (extractStridedSlice S64x128 ![0, oh] B s2))) s3) T0 h1 c1))
    (fromState M1 (extractStridedSlice S16x128 ![rb, 0] (mulf (extf .f32 Q h1) (exp2 (extractStridedSlice S64x128 ![0, oh] B s2))) s3) T1 h1 c1))
    (fromState M2 (extractStridedSlice S16x128 ![rb, 0] (mulf (extf .f32 Q h1) (exp2 (extractStridedSlice S64x128 ![0, oh] B s2))) s3) T2 h1 c1))
    (fromState M3 (extractStridedSlice S16x128 ![rb, 0] (mulf (extf .f32 Q h1) (exp2 (extractStridedSlice S64x128 ![0, oh] B s2))) s3) T3 h1 c1)

theorem groupRows_at (M0 M1 M2 M3 : IVec S16x128 1) (T0 T1 T2 T3 : FVec Ideal S1x1x128x128 .f32) (W : IVec S64x64 1) (Q K V : FVec Ideal S64x128 .bf16)
    (X0 : FVec Ideal S64x5120 .bf16) (B : FVec Ideal S192x1024 .f32) (X2 : FVec Ideal S16x8x128x128 .f32) (oh rb : ℕ) (h1 c1 s1 s2 s3)
    (h : Fin 8) (ho : oh = 128 * h.val) (b : Fin 4) (hrb : rb = 16 * b.val)
    (hW : ∀ r r' : Fin 64, W (ix2 r r') = if r'.val / 4 = r.val / 4 ∧ r'.val % 4 ≤ r.val % 4 then 1 else 0)
    (hQ : ∀ (r : Fin 64) (k : Fin 128), Q (ix2 r k) = X0 (ix2 r ⟨128 * h.val + k.val, by omega⟩))
    (hK : ∀ (r : Fin 64) (k : Fin 128), K (ix2 r k) = X0 (ix2 r ⟨1024 + (128 * h.val + k.val), by omega⟩))
    (hV : ∀ (r : Fin 64) (k : Fin 128), V (ix2 r k) = X0 (ix2 r ⟨2048 + (128 * h.val + k.val), by omega⟩))
    (hM0 : ∀ (q : Fin 16) (k : Fin 128), M0 (ix2 q k) = if 4 * 0 ≤ q.val ∧ q.val < 4 * 0 + 4 then 1 else 0)
    (hM1 : ∀ (q : Fin 16) (k : Fin 128), M1 (ix2 q k) = if 4 * 1 ≤ q.val ∧ q.val < 4 * 1 + 4 then 1 else 0)
    (hM2 : ∀ (q : Fin 16) (k : Fin 128), M2 (ix2 q k) = if 4 * 2 ≤ q.val ∧ q.val < 4 * 2 + 4 then 1 else 0)
    (hM3 : ∀ (q : Fin 16) (k : Fin 128), M3 (ix2 q k) = if 4 * 3 ≤ q.val ∧ q.val < 4 * 3 + 4 then 1 else 0)
    (hT0 : ∀ k v : Fin 128, T0 (ix4 0 0 k v) = X2 (ix4 ⟨4 * b.val + 0, by omega⟩ h k v))
    (hT1 : ∀ k v : Fin 128, T1 (ix4 0 0 k v) = X2 (ix4 ⟨4 * b.val + 1, by omega⟩ h k v))
    (hT2 : ∀ k v : Fin 128, T2 (ix4 0 0 k v) = X2 (ix4 ⟨4 * b.val + 2, by omega⟩ h k v))
    (hT3 : ∀ k v : Fin 128, T3 (ix4 0 0 k v) = X2 (ix4 ⟨4 * b.val + 3, by omega⟩ h k v))
    (s : Fin 16) (p : Fin 4) (q : Fin 16) (hq : 16 * b.val + q.val = 4 * s.val + p.val) (v : Fin 128) :
    groupRows M0 M1 M2 M3 T0 T1 T2 T3 W Q K V B oh rb h1 c1 s1 s2 s3 (ix2 q v) = mixedAt X0 B X2 s p h v := by
  subst hrb
  have hj : q.val / 4 < 4 := by omega
  have hs : s = ⟨4 * b.val + q.val / 4, by omega⟩ := Fin.ext (by simp only []; omega)
  have e1 : extractStridedSlice S16x128 ![16 * b.val, 0] (within W Q K V B oh h1 s1 s2) s3 (ix2 q v)
      = within W Q K V B oh h1 s1 s2 (ix2 ⟨16 * b.val + q.val, by omega⟩ v) := by
    generalize within W Q K V B oh h1 s1 s2 = Z
    pointwise
  have e2 : ∀ k : Fin 128, extractStridedSlice S16x128 ![16 * b.val, 0] (mulf (extf .f32 Q h1) (exp2 (extractStridedSlice S64x128 ![0, oh] B s2))) s3 (ix2 q k)
      = X0 (ix2 ⟨4 * s.val + p.val, by omega⟩ ⟨128 * h.val + k.val, by omega⟩)
        * Ideal.exp2 (B (ix2 ⟨4 * s.val + p.val, by omega⟩ ⟨128 * h.val + k.val, by omega⟩)) := by
    intro k
    subst ho
    pointwise
    rw [hQ]
    simp only [hq]
    rfl
  have et : ∀ (M : IVec S16x128 1) (T : FVec Ideal S1x1x128x128 .f32) (j : Fin 4)
      (hM : ∀ (q : Fin 16) (k : Fin 128), M (ix2 q k) = if 4 * j.val ≤ q.val ∧ q.val < 4 * j.val + 4 then 1 else 0)
      (hT : ∀ k v : Fin 128, T (ix4 0 0 k v) = X2 (ix4 ⟨4 * b.val + j.val, by omega⟩ h k v)),
      fromState M (extractStridedSlice S16x128 ![16 * b.val, 0] (mulf (extf .f32 Q h1) (exp2 (extractStridedSlice S64x128 ![0, oh] B s2))) s3) T h1 c1 (ix2 q v)
        = if q.val / 4 = j.val then (fun j : Fin 4 => ∑ k : Fin 128, X0 (ix2 ⟨4 * s.val + p.val, by omega⟩ ⟨128 * h.val + k.val, by omega⟩)
            * Ideal.exp2 (B (ix2 ⟨4 * s.val + p.val, by omega⟩ ⟨128 * h.val + k.val, by omega⟩)) * X2 (ix4 ⟨4 * b.val + j.val, by omega⟩ h k v)) j else 0 := by
    intro M T j hM hT
    rw [fromState_at M _ T h1 c1 j.val hM q v]
    simp only [e2, hT]
  have er : (⟨16 * b.val + q.val, by omega⟩ : Fin 64) = ⟨4 * s.val + p.val, by omega⟩ := Fin.ext hq
  have ew := (congrArg (fun r => within W Q K V B oh h1 s1 s2 (ix2 r v)) er).trans (within_at W Q K V X0 B oh h1 s1 s2 h ho hW hQ hK hV s p v)
  have key := pick (within W Q K V B oh h1 s1 s2 (ix2 ⟨16 * b.val + q.val, by omega⟩ v)) (q.val / 4) hj
    (fun j : Fin 4 => ∑ k : Fin 128, X0 (ix2 ⟨4 * s.val + p.val, by omega⟩ ⟨128 * h.val + k.val, by omega⟩)
            * Ideal.exp2 (B (ix2 ⟨4 * s.val + p.val, by omega⟩ ⟨128 * h.val + k.val, by omega⟩)) * X2 (ix4 ⟨4 * b.val + j.val, by omega⟩ h k v))
  have hsum := congrArg₂ (· + ·) (congrArg₂ (· + ·) (congrArg₂ (· + ·) (congrArg₂ (· + ·) e1 (et M0 T0 0 hM0 hT0)) (et M1 T1 1 hM1 hT1)) (et M2 T2 2 hM2 hT2)) (et M3 T3 3 hM3 hT3)
  refine hsum.trans (key.trans ?_)
  unfold mixedAt
  refine congrArg₂ (· + ·) ew ?_
  refine Finset.sum_congr rfl fun k _ => ?_
  refine congrArg₂ (· * ·) rfl ?_
  rw [← hs]

/-- The norm, the scale and the gate of a group's rows. -/
theorem normed_at (A : FVec Ideal S16x128 .f32) (N : FVec Ideal S1x128 .f32) (G : FVec Ideal S16x128 .bf16)
    (h1 : FTy.bf16.bits < FTy.f32.bits) (hr h2 h3 h4 h5 h6) (q : Fin 16) (v : Fin 128) :
    truncf .bf16 (mulf (mulf (mulf A (broadcastTo S16x128 (rsqrt (addf (divf (shapeCast S16x1 (multiReduction (F := Ideal) (φ := .f32) .add [1] S16 (mulf A A) 0x00000000#32 hr h2 h3) h4)
      (broadcast S16x1 (FloatOps.ofBits .f32 0x43000000#32))) (broadcast S16x1 (FloatOps.ofBits .f32 0x358637BD#32)))) h5)) (broadcastTo S16x128 N h6)) (extf .f32 G h1)) h1 (ix2 q v)
      = A (ix2 q v) * overRoot (∑ v' : Fin 128, A (ix2 q v') * A (ix2 q v')) * N (ix2 (0 : Fin 1) v) * G (ix2 q v) := by
  pointwise
  rfl

end Cert.KernelIdeal.Mine

end
-- ==== Proof.Mix.Layer.lean ====
module

public import proofs.«01_k».proof.Proof.Mix.Decay
public import proofs.«01_k».proof.Proof.Mix.State
public import proofs.«01_k».proof.Proof.Mix.Heads
public import proofs.«01_k».proof.Proof.Mix.Scratch

/-!
# The mixer, entry by entry, in terms of the arrays it is given

The definitions say what the layer computes for sequence `s` of the 128. The theorems say that what one grid point computes for
sequence `s` of its sixteen is that.
-/

@[expose] public section

set_option maxRecDepth 16384

noncomputable section

namespace Cert.KernelIdeal.Mine

open Cert.KernelIdeal Cert.KernelIdeal.Gen Idealize.ShloMosaic Idealize.ShloMosaic.TcCoe Idealize.ShloMosaic.Tactic Idealize.SL.Sem

/-- The log-decays of channel `j`, added up to position `p`. -/
def cumOf (A1 : FVec Ideal S576x2048 .f32) (s : Fin 128) (p : Fin 4) (j : Fin 1024) : EReal :=
  ∑ q : Fin 4, if q.val ≤ p.val then A1 (ix2 ⟨4 * s.val + q.val, by omega⟩ ⟨j.val, by omega⟩) else 0

/-- The new state. -/
def stateOf (A0 : FVec Ideal S576x5120 .bf16) (A1 : FVec Ideal S576x2048 .f32) (A2 : FVec Ideal S128x8x128x128 .f32) (s : Fin 128) (h : Fin 8) (k v : Fin 128) : EReal :=
  Ideal.exp (cumOf A1 s 3 ⟨128 * h.val + k.val, by omega⟩) * A2 (ix4 s h k v)
    + ∑ p : Fin 4, A0 (ix2 ⟨4 * s.val + p.val, by omega⟩ ⟨1024 + (128 * h.val + k.val), by omega⟩)
        * Ideal.exp (cumOf A1 s 3 ⟨128 * h.val + k.val, by omega⟩ - cumOf A1 s p ⟨128 * h.val + k.val, by omega⟩)
        * A0 (ix2 ⟨4 * s.val + p.val, by omega⟩ ⟨2048 + (128 * h.val + v.val), by omega⟩)

/-- How much position `p` takes from position `p'`. -/
def scoreOf (A0 : FVec Ideal S576x5120 .bf16) (A1 : FVec Ideal S576x2048 .f32) (s : Fin 128) (h : Fin 8) (p p' : Fin 4) : EReal :=
  ∑ k : Fin 128, A0 (ix2 ⟨4 * s.val + p.val, by omega⟩ ⟨128 * h.val + k.val, by omega⟩)
      * Ideal.exp (cumOf A1 s p ⟨128 * h.val + k.val, by omega⟩ - cumOf A1 s 2 ⟨128 * h.val + k.val, by omega⟩)
    * (A0 (ix2 ⟨4 * s.val + p'.val, by omega⟩ ⟨1024 + (128 * h.val + k.val), by omega⟩)
      * Ideal.exp (cumOf A1 s 2 ⟨128 * h.val + k.val, by omega⟩ - cumOf A1 s p' ⟨128 * h.val + k.val, by omega⟩))

/-- A row of head `h` before the norm. -/
def mixedOf (A0 : FVec Ideal S576x5120 .bf16) (A1 : FVec Ideal S576x2048 .f32) (A2 : FVec Ideal S128x8x128x128 .f32) (s : Fin 128) (p : Fin 4)
    (h : Fin 8) (v : Fin 128) : EReal :=
  (∑ p' : Fin 4, (if p'.val ≤ p.val then scoreOf A0 A1 s h p p' else 0)
      * A0 (ix2 ⟨4 * s.val + p'.val, by omega⟩ ⟨2048 + (128 * h.val + v.val), by omega⟩))
    + ∑ k : Fin 128, A0 (ix2 ⟨4 * s.val + p.val, by omega⟩ ⟨128 * h.val + k.val, by omega⟩)
        * Ideal.exp (cumOf A1 s p ⟨128 * h.val + k.val, by omega⟩) * A2 (ix4 s h k v)

/-- The row normed, scaled and gated. -/
def headOf (A0 : FVec Ideal S576x5120 .bf16) (A1 : FVec Ideal S576x2048 .f32) (A2 : FVec Ideal S128x8x128x128 .f32) (A4 : FVec Ideal S1024 .f32)
    (s : Fin 128) (p : Fin 4) (h : Fin 8) (v : Fin 128) : EReal :=
  mixedOf A0 A1 A2 s p h v * overRoot (∑ v' : Fin 128, mixedOf A0 A1 A2 s p h v' * mixedOf A0 A1 A2 s p h v')
    * A4 (ix1 ⟨128 * h.val + v.val, by omega⟩) * A0 (ix2 ⟨4 * s.val + p.val, by omega⟩ ⟨3072 + (128 * h.val + v.val), by omega⟩)

/-- The two rows kept from before, then the four new ones. -/
def longRowOf (A1 : FVec Ideal S576x2048 .f32) (A3 : FVec Ideal S128x2x1024 .f32) (s : Fin 128) (p : Fin 6) (k : Fin 1024) :
    Elt Ideal .f32 :=
  if h : p.val < 2 then A3 (ix3 s ⟨p.val, h⟩ k) else A1 (ix2 ⟨4 * s.val + (p.val - 2), by omega⟩ ⟨1024 + k.val, by omega⟩)

/-- The three taps of the convolution. -/
def convOf (A1 : FVec Ideal S576x2048 .f32) (A3 : FVec Ideal S128x2x1024 .f32) (A5 : FVec Ideal S3x1024 .f32) (s : Fin 128)
    (q : Fin 4) (k : Fin 1024) : EReal :=
  A5 (ix2 (0 : Fin 3) k) * longRowOf A1 A3 s ⟨q.val, by omega⟩ k + A5 (ix2 (1 : Fin 3) k) * longRowOf A1 A3 s ⟨q.val + 1, by omega⟩ k
    + A5 (ix2 (2 : Fin 3) k) * longRowOf A1 A3 s ⟨q.val + 2, by omega⟩ k

/-- A column of the mixer's output: the first 1024 are the heads', the others the convolution's. -/
def mixOf (A0 : FVec Ideal S576x5120 .bf16) (A1 : FVec Ideal S576x2048 .f32) (A2 : FVec Ideal S128x8x128x128 .f32) (A3 : FVec Ideal S128x2x1024 .f32)
    (A4 : FVec Ideal S1024 .f32) (A5 : FVec Ideal S3x1024 .f32) (s : Fin 128) (p : Fin 4) (j : Fin 2048) : EReal :=
  if h : j.val < 1024 then headOf A0 A1 A2 A4 s p ⟨j.val / 128, by omega⟩ ⟨j.val % 128, by omega⟩
  else A0 (ix2 ⟨4 * s.val + p.val, by omega⟩ ⟨4096 + (j.val - 1024), by omega⟩) * convOf A1 A3 A5 s p ⟨j.val - 1024, by omega⟩

section Point

variable (X0 : FVec Ideal S64x5120 .bf16) (X1 : FVec Ideal S64x2048 .f32) (X2 : FVec Ideal S16x8x128x128 .f32) (X3 : FVec Ideal S16x2x1024 .f32)
  (X4 : FVec Ideal S1x1024 .f32) (X5 : FVec Ideal S3x1024 .f32) (B : FVec Ideal S192x1024 .f32) (lf : FVec Ideal S64x1024 .f32)
  (A0 : FVec Ideal S576x5120 .bf16) (A1 : FVec Ideal S576x2048 .f32) (A2 : FVec Ideal S128x8x128x128 .f32) (A3 : FVec Ideal S128x2x1024 .f32)
  (A4 : FVec Ideal S1024 .f32) (A5 : FVec Ideal S3x1024 .f32)

theorem cum_of (b : ℕ) (s : Fin 16) (p p' : Fin 4) (S : Fin 128) (k : Fin 1024)
    (hl : ∀ q : Fin 4, lf (ix2 ⟨4 * s.val + q.val, by omega⟩ k) = A1 (ix2 ⟨4 * S.val + q.val, by omega⟩ ⟨k.val, by omega⟩))
    (hp : ∀ q : Fin 4, reach b p.val q.val = decide (q.val ≤ p'.val)) : decaySum lf b s p k = cumOf A1 S p' k := by
  unfold decaySum cumOf
  simp only [hl, hp, decide_eq_true_eq]

variable (s : Fin 16) (S : Fin 128)

theorem state_of
    (h0 : ∀ (p : Fin 4) (j : Fin 5120), X0 (ix2 ⟨4 * s.val + p.val, by omega⟩ j) = A0 (ix2 ⟨4 * S.val + p.val, by omega⟩ j))
    (h2 : ∀ (h : Fin 8) (k v : Fin 128), X2 (ix4 s h k v) = A2 (ix4 S h k v))
    (hB0 : ∀ (p : Fin 4) (k : Fin 1024), B (ix2 ⟨4 * s.val + p.val, by omega⟩ k) = cumOf A1 S p k * (scale : EReal))
    (hB2 : ∀ (p : Fin 4) (k : Fin 1024), B (ix2 ⟨128 + (4 * s.val + p.val), by omega⟩ k) = cumOf A1 S 3 k * (scale : EReal))
    (h : Fin 8) (k v : Fin 128) : stateAt X0 B X2 s h k v = stateOf A0 A1 A2 S h k v := by
  unfold stateAt stateOf
  have e := hB2 0
  simp only [Fin.val_zero, Nat.add_zero] at e
  simp only [h0, h2, hB0, hB2, e, scaled_sub, exp2_scaled]

theorem score_of
    (h0 : ∀ (p : Fin 4) (j : Fin 5120), X0 (ix2 ⟨4 * s.val + p.val, by omega⟩ j) = A0 (ix2 ⟨4 * S.val + p.val, by omega⟩ j))
    (hB0 : ∀ (p : Fin 4) (k : Fin 1024), B (ix2 ⟨4 * s.val + p.val, by omega⟩ k) = cumOf A1 S p k * (scale : EReal))
    (hB1 : ∀ (p : Fin 4) (k : Fin 1024), B (ix2 ⟨64 + (4 * s.val + p.val), by omega⟩ k) = cumOf A1 S 2 k * (scale : EReal))
    (h : Fin 8) (p p' : Fin 4) :
    scoreAt X0 B h ⟨4 * s.val + p.val, by omega⟩ ⟨4 * s.val + p'.val, by omega⟩ = scoreOf A0 A1 S h p p' := by
  unfold scoreAt scoreOf
  simp only [h0, hB0, hB1, scaled_sub, exp2_scaled]

theorem mixed_of
    (h0 : ∀ (p : Fin 4) (j : Fin 5120), X0 (ix2 ⟨4 * s.val + p.val, by omega⟩ j) = A0 (ix2 ⟨4 * S.val + p.val, by omega⟩ j))
    (h2 : ∀ (h : Fin 8) (k v : Fin 128), X2 (ix4 s h k v) = A2 (ix4 S h k v))
    (hB0 : ∀ (p : Fin 4) (k : Fin 1024), B (ix2 ⟨4 * s.val + p.val, by omega⟩ k) = cumOf A1 S p k * (scale : EReal))
    (hB1 : ∀ (p : Fin 4) (k : Fin 1024), B (ix2 ⟨64 + (4 * s.val + p.val), by omega⟩ k) = cumOf A1 S 2 k * (scale : EReal))
    (p : Fin 4) (h : Fin 8) (v : Fin 128) : mixedAt X0 B X2 s p h v = mixedOf A0 A1 A2 S p h v := by
  unfold mixedAt mixedOf
  simp only [score_of X0 B A0 A1 s S h0 hB0 hB1, h0, h2, hB0, exp2_scaled]

theorem head_of
    (h0 : ∀ (p : Fin 4) (j : Fin 5120), X0 (ix2 ⟨4 * s.val + p.val, by omega⟩ j) = A0 (ix2 ⟨4 * S.val + p.val, by omega⟩ j))
    (h2 : ∀ (h : Fin 8) (k v : Fin 128), X2 (ix4 s h k v) = A2 (ix4 S h k v))
    (h4 : ∀ k : Fin 1024, X4 (ix2 (0 : Fin 1) k) = A4 (ix1 k))
    (hB0 : ∀ (p : Fin 4) (k : Fin 1024), B (ix2 ⟨4 * s.val + p.val, by omega⟩ k) = cumOf A1 S p k * (scale : EReal))
    (hB1 : ∀ (p : Fin 4) (k : Fin 1024), B (ix2 ⟨64 + (4 * s.val + p.val), by omega⟩ k) = cumOf A1 S 2 k * (scale : EReal))
    (p : Fin 4) (h : Fin 8) (v : Fin 128) : headAt X0 B X2 X4 s p h v = headOf A0 A1 A2 A4 S p h v := by
  unfold headAt headOf
  simp only [mixed_of X0 X2 B A0 A1 A2 s S h0 h2 hB0 hB1, h0, h4]

theorem longRow_of
    (h1 : ∀ (p : Fin 4) (j : Fin 2048), X1 (ix2 ⟨4 * s.val + p.val, by omega⟩ j) = A1 (ix2 ⟨4 * S.val + p.val, by omega⟩ j))
    (h3 : ∀ (p : Fin 2) (k : Fin 1024), X3 (ix3 s p k) = A3 (ix3 S p k))
    (p : Fin 6) (k : Fin 1024) : longRow X1 X3 s p k = longRowOf A1 A3 S p k := by
  unfold longRow longRowOf
  by_cases h : p.val < 2
  · rw [dif_pos h, dif_pos h]
    exact h3 _ k
  · rw [dif_neg h, dif_neg h]
    exact h1 ⟨p.val - 2, by omega⟩ _

theorem conv_of
    (h1 : ∀ (p : Fin 4) (j : Fin 2048), X1 (ix2 ⟨4 * s.val + p.val, by omega⟩ j) = A1 (ix2 ⟨4 * S.val + p.val, by omega⟩ j))
    (h3 : ∀ (p : Fin 2) (k : Fin 1024), X3 (ix3 s p k) = A3 (ix3 S p k))
    (h5 : ∀ (j : Fin 3) (k : Fin 1024), X5 (ix2 j k) = A5 (ix2 j k))
    (q : Fin 4) (k : Fin 1024) : convAt X1 X3 X5 s q k = convOf A1 A3 A5 S q k := by
  unfold convAt convOf
  simp only [longRow_of X1 X3 A1 A3 s S h1 h3, h5]

end Point

end Cert.KernelIdeal.Mine

end
-- ==== Proof.Mix.Rows.lean ====
module

public import proofs.«01_k».proof.Proof.Gen.KernelIdeal.Value
public import proofs.«01_k».proof.Proof.Mix.Heads
public import Idealize.ShloMosaic.Lib.Pipeline.ValueKit
public import Idealize.ShloMosaic.Lib.Pipeline.ValueKit.Tiles

/-!
# The mixer's output block: its head columns and its convolution columns
-/

@[expose] public section

set_option maxRecDepth 100000

noncomputable section

namespace Cert.KernelIdeal.Mine

open Cert.KernelIdeal Cert.KernelIdeal.Gen Idealize.ShloMosaic Idealize.ShloMosaic.TcCoe Idealize.ShloMosaic.Tactic Idealize.SL.Sem

theorem block_at (X2 : FVec Ideal S16x8x128x128 .f32) (s h : ℕ) (inb) (k v : Fin 128) (s' : Fin 16) (h' : Fin 8) (es : s'.val = s) (eh : h'.val = h) :
    View.ld (Val := Elt Ideal) (S := S16x8x128x128) (e' := .f32) X2 (Rect.unit (s := S16x8x128x128) ![s, h, 0, 0] ![1, 1, 128, 128] inb)
      (ix4 (0 : Fin 1) (0 : Fin 1) k v) = X2 (ix4 s' h' k v) := by
  refine View.ld_unit_apply_of (Val := Elt Ideal) (S := S16x8x128x128) (e := .f32) X2 _ _ _ _ _ fun a => ?_
  fin_cases a <;> simp [ix4, es, eh]

theorem gate_at (X0 : FVec Ideal S64x5120 .bf16) (r0 o : ℕ) (inb) (q : Fin 16) (k : Fin 128) (r : Fin 64) (o' : Fin 5120) (hr : r.val = r0 + q.val) (ho : o'.val = o + k.val) :
    View.ld (Val := Elt Ideal) (S := S64x5120) (e' := .bf16) X0 (Rect.unit (s := S64x5120) ![r0, o] ![16, 128] inb) (ix2 (n0 := 16) (n1 := 128) q k) = X0 (ix2 r o') := by
  refine View.ld_unit_apply_of (Val := Elt Ideal) (S := S64x5120) (e := .bf16) X0 _ _ _ _ _ fun a => ?_
  fin_cases a
  · simpa [ix2] using hr
  · simpa [ix2] using ho

theorem scale_at (X4 : FVec Ideal S1x1024 .f32) (oh : ℕ) (s6 : Shape.Slices S1x1024 ![0, oh] S1x128) (k : Fin 128) (o' : Fin 1024) (ho : o'.val = oh + k.val) :
    extractStridedSlice S1x128 ![0, oh] (k0_pay75 X4) s6 (ix2 (0 : Fin 1) k) = X4 (ix2 (0 : Fin 1) o') := by
  have hb : oh + k.val < 1024 := by omega
  obtain rfl : o' = ⟨oh + k.val, hb⟩ := Fin.ext ho
  unfold k0_pay75
  pointwise

/-- A stored group of sixteen rows of one head. -/
theorem group_store (M0 M1 M2 M3 : IVec S16x128 1) (W : IVec S64x64 1) (X0 : FVec Ideal S64x5120 .bf16) (B : FVec Ideal S192x1024 .f32)
    (X2 : FVec Ideal S16x8x128x128 .f32) (X4 : FVec Ideal S1x1024 .f32) (oh rb a0 a1 a2 a3 o1 o2 o3 o4 o5 : ℕ) (h1 c1 s1 s2 s3 hr h2 h3 h4 h5 h6 s6 i0 i1 i2 i3 j1 j2 j3 j4)
    (h : Fin 8) (b : Fin 4) (s : Fin 16) (p : Fin 4) (v : Fin 128) (x : S16x128.Idx) (hx1 : (x 1).val = v.val) (hx : 16 * b.val + (x 0).val = 4 * s.val + p.val)
    (ho : oh = 128 * h.val) (hrb : rb = 16 * b.val) (e0 : a0 = 4 * b.val + 0) (e1 : a1 = 4 * b.val + 1) (e2 : a2 = 4 * b.val + 2) (e3 : a3 = 4 * b.val + 3)
    (p1 : o1 = 128 * h.val) (p2 : o2 = 1024 + 128 * h.val) (p3 : o3 = 2048 + 128 * h.val) (p4 : o4 = 3072 + 128 * h.val) (p5 : o5 = h.val)
    (hW : ∀ r r' : Fin 64, W (ix2 r r') = if r'.val / 4 = r.val / 4 ∧ r'.val % 4 ≤ r.val % 4 then 1 else 0)
    (hM0 : ∀ (q : Fin 16) (k : Fin 128), M0 (ix2 q k) = if 4 * 0 ≤ q.val ∧ q.val < 4 * 0 + 4 then 1 else 0)
    (hM1 : ∀ (q : Fin 16) (k : Fin 128), M1 (ix2 q k) = if 4 * 1 ≤ q.val ∧ q.val < 4 * 1 + 4 then 1 else 0)
    (hM2 : ∀ (q : Fin 16) (k : Fin 128), M2 (ix2 q k) = if 4 * 2 ≤ q.val ∧ q.val < 4 * 2 + 4 then 1 else 0)
    (hM3 : ∀ (q : Fin 16) (k : Fin 128), M3 (ix2 q k) = if 4 * 3 ≤ q.val ∧ q.val < 4 * 3 + 4 then 1 else 0) :
    truncf .bf16 (mulf (mulf (mulf (groupRows M0 M1 M2 M3
      (View.ld (Val := Elt Ideal) (S := S16x8x128x128) (e' := .f32) X2 (Rect.unit (s := S16x8x128x128) ![a0, o5, 0, 0] ![1, 1, 128, 128] i0))
      (View.ld (Val := Elt Ideal) (S := S16x8x128x128) (e' := .f32) X2 (Rect.unit (s := S16x8x128x128) ![a1, o5, 0, 0] ![1, 1, 128, 128] i1))
      (View.ld (Val := Elt Ideal) (S := S16x8x128x128) (e' := .f32) X2 (Rect.unit (s := S16x8x128x128) ![a2, o5, 0, 0] ![1, 1, 128, 128] i2))
      (View.ld (Val := Elt Ideal) (S := S16x8x128x128) (e' := .f32) X2 (Rect.unit (s := S16x8x128x128) ![a3, o5, 0, 0] ![1, 1, 128, 128] i3)) W
      (View.ld (Val := Elt Ideal) (S := S64x5120) (e' := .bf16) X0 (Rect.unit (s := S64x5120) ![0, o1] ![64, 128] j1))
      (View.ld (Val := Elt Ideal) (S := S64x5120) (e' := .bf16) X0 (Rect.unit (s := S64x5120) ![0, o2] ![64, 128] j2))
      (View.ld (Val := Elt Ideal) (S := S64x5120) (e' := .bf16) X0 (Rect.unit (s := S64x5120) ![0, o3] ![64, 128] j3)) B oh rb h1 c1 s1 s2 s3) (broadcastTo S16x128 (rsqrt (addf (divf (shapeCast S16x1 (multiReduction (F := Ideal) (φ := .f32) .add [1] S16 (mulf (groupRows M0 M1 M2 M3
      (View.ld (Val := Elt Ideal) (S := S16x8x128x128) (e' := .f32) X2 (Rect.unit (s := S16x8x128x128) ![a0, o5, 0, 0] ![1, 1, 128, 128] i0))
      (View.ld (Val := Elt Ideal) (S := S16x8x128x128) (e' := .f32) X2 (Rect.unit (s := S16x8x128x128) ![a1, o5, 0, 0] ![1, 1, 128, 128] i1))
      (View.ld (Val := Elt Ideal) (S := S16x8x128x128) (e' := .f32) X2 (Rect.unit (s := S16x8x128x128) ![a2, o5, 0, 0] ![1, 1, 128, 128] i2))
      (View.ld (Val := Elt Ideal) (S := S16x8x128x128) (e' := .f32) X2 (Rect.unit (s := S16x8x128x128) ![a3, o5, 0, 0] ![1, 1, 128, 128] i3)) W
      (View.ld (Val := Elt Ideal) (S := S64x5120) (e' := .bf16) X0 (Rect.unit (s := S64x5120) ![0, o1] ![64, 128] j1))
      (View.ld (Val := Elt Ideal) (S := S64x5120) (e' := .bf16) X0 (Rect.unit (s := S64x5120) ![0, o2] ![64, 128] j2))
      (View.ld (Val := Elt Ideal) (S := S64x5120) (e' := .bf16) X0 (Rect.unit (s := S64x5120) ![0, o3] ![64, 128] j3)) B oh rb h1 c1 s1 s2 s3) (groupRows M0 M1 M2 M3
      (View.ld (Val := Elt Ideal) (S := S16x8x128x128) (e' := .f32) X2 (Rect.unit (s := S16x8x128x128) ![a0, o5, 0, 0] ![1, 1, 128, 128] i0))
      (View.ld (Val := Elt Ideal) (S := S16x8x128x128) (e' := .f32) X2 (Rect.unit (s := S16x8x128x128) ![a1, o5, 0, 0] ![1, 1, 128, 128] i1))
      (View.ld (Val := Elt Ideal) (S := S16x8x128x128) (e' := .f32) X2 (Rect.unit (s := S16x8x128x128) ![a2, o5, 0, 0] ![1, 1, 128, 128] i2))
      (View.ld (Val := Elt Ideal) (S := S16x8x128x128) (e' := .f32) X2 (Rect.unit (s := S16x8x128x128) ![a3, o5, 0, 0] ![1, 1, 128, 128] i3)) W
      (View.ld (Val := Elt Ideal) (S := S64x5120) (e' := .bf16) X0 (Rect.unit (s := S64x5120) ![0, o1] ![64, 128] j1))
      (View.ld (Val := Elt Ideal) (S := S64x5120) (e' := .bf16) X0 (Rect.unit (s := S64x5120) ![0, o2] ![64, 128] j2))
      (View.ld (Val := Elt Ideal) (S := S64x5120) (e' := .bf16) X0 (Rect.unit (s := S64x5120) ![0, o3] ![64, 128] j3)) B oh rb h1 c1 s1 s2 s3)) 0x00000000#32 hr h2 h3) h4)
      (broadcast S16x1 (FloatOps.ofBits .f32 0x43000000#32))) (broadcast S16x1 (FloatOps.ofBits .f32 0x358637BD#32)))) h5))
        (broadcastTo S16x128 (extractStridedSlice S1x128 ![0, oh] (k0_pay75 X4) s6) h6))
        (extf .f32 (View.ld (Val := Elt Ideal) (S := S64x5120) (e' := .bf16) X0 (Rect.unit (s := S64x5120) ![rb, o4] ![16, 128] j4)) h1)) h1 x
      = headAt X0 B X2 X4 s p h v := by
  obtain ⟨q, v', rfl⟩ : ∃ (q : Fin 16) (v' : Fin 128), x = ix2 q v' := by
    refine ⟨x 0, x 1, funext fun a => ?_⟩
    fin_cases a <;> rfl
  obtain rfl : v' = v := Fin.ext hx1
  generalize hA : groupRows M0 M1 M2 M3 _ _ _ _ W _ _ _ B oh rb h1 c1 s1 s2 s3 = A
  have hAt : ∀ v : Fin 128, A (ix2 q v) = mixedAt X0 B X2 s p h v := fun v => by
    rw [← hA]
    exact groupRows_at M0 M1 M2 M3 _ _ _ _ W _ _ _ X0 B X2 oh rb h1 c1 s1 s2 s3 h ho b hrb hW
      (fun r k => rows_at _ _ _ r k _ (by simp only []; omega)) (fun r k => rows_at _ _ _ r k _ (by simp only []; omega))
      (fun r k => rows_at _ _ _ r k _ (by simp only []; omega)) hM0 hM1 hM2 hM3
      (fun k v => block_at X2 _ _ _ k v _ _ e0.symm p5.symm) (fun k v => block_at X2 _ _ _ k v _ _ e1.symm p5.symm)
      (fun k v => block_at X2 _ _ _ k v _ _ e2.symm p5.symm) (fun k v => block_at X2 _ _ _ k v _ _ e3.symm p5.symm) s p q hx v
  refine (normed_at A _ _ h1 hr h2 h3 h4 h5 h6 q v').trans ?_
  have g := gate_at X0 rb o4 j4 q v' ⟨4 * s.val + p.val, by omega⟩ ⟨3072 + (128 * h.val + v'.val), by omega⟩
    (by have : (((ix2 q v' : S16x128.Idx) 0 : Fin 16)).val = q.val := rfl
        rw [this] at hx
        simp only []
        omega) (by simp only []; omega)
  have n := scale_at X4 oh s6 v' ⟨128 * h.val + v'.val, by omega⟩ (by simp only []; omega)
  unfold headAt
  simp only [hAt]
  exact congrArg₂ (fun a b : EReal => a * b) (congrArg₂ (fun a b : EReal => a * b) rfl n) g

set_option maxHeartbeats 0 in
/-- Every head column of the output block. -/
theorem heads_at (c : Dev nD) (i : grid0.Coords) (arg1 : Memref sig .tc .vmem S64x5120 .bf16) (harg1 : arg1.IsWhole) (arg2 : Memref sig .tc .vmem S64x2048 .f32) (harg2 : arg2.IsWhole) (arg3 : Memref sig .tc .vmem S16x8x128x128 .f32) (harg3 : arg3.IsWhole) (arg4 : Memref sig .tc .vmem S16x2x1024 .f32) (harg4 : arg4.IsWhole) (arg5 : Memref sig .tc .vmem S1x1024 .f32) (harg5 : arg5.IsWhole) (arg6 : Memref sig .tc .vmem S3x1024 .f32) (harg6 : arg6.IsWhole) (arg7 : Memref sig .tc .vmem S192x192 .bf16) (harg7 : arg7.IsWhole) (arg8 : Memref sig .tc .vmem S64x64 .f32) (harg8 : arg8.IsWhole) (arg9 : Memref sig .tc .vmem S64x2048 .bf16) (harg9 : arg9.IsWhole) (arg10 : Memref sig .tc .vmem S16x8x128x128 .f32) (harg10 : arg10.IsWhole) (arg11 : Memref sig .tc .vmem S16x2x1024 .f32) (harg11 : arg11.IsWhole) (arg12 : Memref sig .tc .vmem S128x1024 .f32) (harg12 : arg12.IsWhole) (arg13 : Memref sig .tc .vmem S64x1024 .f32) (harg13 : arg13.IsWhole)
    (x0 : Vec Ideal S64x5120 .bf16) (x1 : Vec Ideal S64x2048 .f32) (x2 : Vec Ideal S16x8x128x128 .f32) (x3 : Vec Ideal S16x2x1024 .f32) (x4 : Vec Ideal S1x1024 .f32) (x5 : Vec Ideal S3x1024 .f32) (x6 : Vec Ideal S192x192 .bf16) (x7 : Vec Ideal S64x64 .f32) (y : S64x2048.Idx)
    (B : FVec Ideal S192x1024 .f32)
    (hB : k0_pay73 (F := Ideal) x6 (View.ld (Val := Elt Ideal) (S := S64x2048) (e' := .f32) x1 (Rect.unit (s := S64x2048) ![0, 0] ![64, 1024] inb_S64x2048_S64x1024_0_0)) = B)
    (hW : ∀ r r' : Fin 64, k0_pay74 (F := Ideal) x7 (ix2 r r') = if r'.val / 4 = r.val / 4 ∧ r'.val % 4 ≤ r.val % 4 then 1 else 0)
    (s : Fin 16) (p : Fin 4) (h : Fin 8) (v : Fin 128) (hy0 : (y 0).val = 4 * s.val + p.val) (hy1 : (y 1).val = 128 * h.val + v.val) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
      = headAt x0 B x2 x4 s p h v := by
  unfold out0_A_8
  rw [View.read_writes_junk_eq_canon]
  dsimp only [kernelRun0_A]
  canon_tiles x e using cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
  case piece32 =>
    exfalso
    omega
  all_goals
    frame_out
    refine (group_store (X0 := x0) (X2 := x2) (X4 := x4) (h := h) (b := ⟨s.val / 4, by omega⟩) (s := s) (p := p) (v := v) (x := x)
      (s6 := by decide) (hx1 := by omega) (hx := by simp only []; omega) (ho := by omega) (hrb := by simp only []; omega)
      (e0 := by simp only []; omega) (e1 := by simp only []; omega) (e2 := by simp only []; omega) (e3 := by simp only []; omega)
      (p1 := by omega) (p2 := by omega) (p3 := by omega) (p4 := by omega) (p5 := by omega) (hW := by exact hW)
      (hM0 := by intro q k; open_payloads; pointwise; revert q; decide)
      (hM1 := by intro q k; open_payloads; pointwise; revert q; decide)
      (hM2 := by intro q k; open_payloads; pointwise; revert q; decide)
      (hM3 := by intro q k; open_payloads; pointwise; revert q; decide) ..).trans (by subst hB; rfl)

end Cert.KernelIdeal.Mine

end
-- ==== Proof.Mix.Conv.lean ====
module

public import proofs.«01_k».proof.Proof.Gen.KernelIdeal.Value
public import proofs.«01_k».proof.Proof.Mix.Scratch
public import Idealize.ShloMosaic.Lib.Pipeline.ValueKit
public import Idealize.ShloMosaic.Lib.Pipeline.ValueKit.Tiles

/-!
# The mixer's output block: its convolution columns
-/

@[expose] public section

set_option maxRecDepth 100000

noncomputable section

namespace Cert.KernelIdeal.Mine

open Cert.KernelIdeal Cert.KernelIdeal.Gen Idealize.ShloMosaic Idealize.ShloMosaic.TcCoe Idealize.ShloMosaic.Tactic Idealize.SL.Sem

/-- The gate times the convolved rows. -/
theorem conv_store {sig' sig'' : RefSig} {κ κ' : Kind} {sp sp' : Space} (w' : View sig'' κ' sp' S64x1024 .f32) (w : View sig' κ sp S128x1024 .f32)
    (X0 : FVec Ideal S64x5120 .bf16) (X1 : FVec Ideal S64x2048 .f32) (X3 : FVec Ideal S16x2x1024 .f32) (X5 : FVec Ideal S3x1024 .f32)
    (inb inb') (s : Fin 16) (p : Fin 4) (k : Fin 1024) (x : S64x1024.Idx) (h0 : (x 0).val = 4 * s.val + p.val) (h1 : (x 1).val = k.val) :
    k0_pay72 (F := Ideal) (View.ld (Val := Elt Ideal) (S := S64x5120) (e' := .bf16) X0 (Rect.unit (s := S64x5120) ![0, 4096] ![64, 1024] inb))
      (w'.readCov (layConv w X1 X3 X5 16 (by omega)) (Rect.unit (s := S64x1024) ![0, 0] ![64, 1024] inb').toLoadRect) x
      = X0 (ix2 ⟨4 * s.val + p.val, by omega⟩ ⟨4096 + k.val, by omega⟩) * convAt X1 X3 X5 s p k := by
  have hx : x = ix2 (⟨4 * s.val + p.val, by clear h0; omega⟩ : Fin 64) k := by
    funext a
    fin_cases a
    · exact Fin.ext h0
    · exact Fin.ext h1
  have e := layConv_read w' w X1 X3 X5 inb' s p k
  have g := View.ld_unit_apply_of (Val := Elt Ideal) (S := S64x5120) (e := .bf16) X0 _ _ inb
    (ix2 (⟨4 * s.val + p.val, by clear h0 hx; omega⟩ : Fin 64) k) (ix2 ⟨4 * s.val + p.val, by clear h0 hx; omega⟩ ⟨4096 + k.val, by clear h0 hx; omega⟩)
    fun a => by fin_cases a <;> simp [ix2]
  exact (congrArg _ hx).trans (congrArg₂ (fun a b : EReal => a * b) g e)

set_option maxHeartbeats 0 in
/-- Every convolution column of the output block. -/
theorem conv_at (c : Dev nD) (i : grid0.Coords) (arg1 : Memref sig .tc .vmem S64x5120 .bf16) (harg1 : arg1.IsWhole) (arg2 : Memref sig .tc .vmem S64x2048 .f32) (harg2 : arg2.IsWhole) (arg3 : Memref sig .tc .vmem S16x8x128x128 .f32) (harg3 : arg3.IsWhole) (arg4 : Memref sig .tc .vmem S16x2x1024 .f32) (harg4 : arg4.IsWhole) (arg5 : Memref sig .tc .vmem S1x1024 .f32) (harg5 : arg5.IsWhole) (arg6 : Memref sig .tc .vmem S3x1024 .f32) (harg6 : arg6.IsWhole) (arg7 : Memref sig .tc .vmem S192x192 .bf16) (harg7 : arg7.IsWhole) (arg8 : Memref sig .tc .vmem S64x64 .f32) (harg8 : arg8.IsWhole) (arg9 : Memref sig .tc .vmem S64x2048 .bf16) (harg9 : arg9.IsWhole) (arg10 : Memref sig .tc .vmem S16x8x128x128 .f32) (harg10 : arg10.IsWhole) (arg11 : Memref sig .tc .vmem S16x2x1024 .f32) (harg11 : arg11.IsWhole) (arg12 : Memref sig .tc .vmem S128x1024 .f32) (harg12 : arg12.IsWhole) (arg13 : Memref sig .tc .vmem S64x1024 .f32) (harg13 : arg13.IsWhole)
    (x0 : Vec Ideal S64x5120 .bf16) (x1 : Vec Ideal S64x2048 .f32) (x2 : Vec Ideal S16x8x128x128 .f32) (x3 : Vec Ideal S16x2x1024 .f32) (x4 : Vec Ideal S1x1024 .f32) (x5 : Vec Ideal S3x1024 .f32) (x6 : Vec Ideal S192x192 .bf16) (x7 : Vec Ideal S64x64 .f32) (y : S64x2048.Idx)
    (s : Fin 16) (p : Fin 4) (k : Fin 1024) (hy0 : (y 0).val = 4 * s.val + p.val) (hy1 : (y 1).val = 1024 + k.val) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
      = x0 (ix2 ⟨4 * s.val + p.val, by omega⟩ ⟨4096 + k.val, by omega⟩) * convAt x1 x3 x5 s p k := by
  unfold out0_A_8
  rw [View.read_writes_junk_eq_canon]
  dsimp only [kernelRun0_A]
  canon_tiles x e using cover0_A_8 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
  case piece32 =>
    frame_out
    exact conv_store _ arg12.view x0 x1 x3 x5 _ _ s p k x (by omega) (by omega)
  all_goals
    exfalso
    omega

end Cert.KernelIdeal.Mine

end
-- ==== Proof.Mix.Tail.lean ====
module

public import proofs.«01_k».proof.Proof.Gen.KernelIdeal.Value
public import proofs.«01_k».proof.Proof.Mix.Scratch
public import Idealize.ShloMosaic.Lib.Pipeline.ValueKit
public import Idealize.ShloMosaic.Lib.Pipeline.ValueKit.Tiles

/-!
# The convolution's new buffer
-/

@[expose] public section

set_option maxRecDepth 100000

noncomputable section

namespace Cert.KernelIdeal.Mine

open Cert.KernelIdeal Cert.KernelIdeal.Gen Idealize.ShloMosaic Idealize.ShloMosaic.TcCoe Idealize.ShloMosaic.Tactic Idealize.SL.Sem

theorem cast_up (Z : FVec Ideal S2x1024 .f32) (h) (p : Fin 2) (k : Fin 1024) :
    shapeCast S1x2x1024 Z h (ix3 (0 : Fin 1) p k) = Z (ix2 p k) := by
  pointwise

/-- The two rows kept of a sequence, as stored. -/
theorem kept_at {sig' : RefSig} {κ : Kind} {sp : Space} (w : View sig' κ sp S128x1024 .f32) (X1 : FVec Ideal S64x2048 .f32)
    (X3 : FVec Ideal S16x2x1024 .f32) (o s : Nat) (ho : o = 8 * s + 4) (hs : s < 16) (inb h) (x : S1x2x1024.Idx)
    (r : Fin 64) (k : Fin 2048) (hr : r.val = 4 * s + (2 + (x 1).val)) (hk : k.val = 1024 + (x 2).val) :
    shapeCast S1x2x1024 (w.readCov (layRows X1 X3 16 (by omega)) (Rect.unit (s := S128x1024) ![o, 0] ![2, 1024] inb).toLoadRect) h x
      = X1 (ix2 r k) := by
  have h1 : (x 1).val < 2 := (x 1).isLt
  have h2 : (x 2).val < 1024 := (x 2).isLt
  have hx : x = ix3 (0 : Fin 1) (⟨(x 1).val, h1⟩ : Fin 2) (⟨(x 2).val, h2⟩ : Fin 1024) := by
    funext a
    fin_cases a
    · exact Fin.ext (by have : (x 0).val < 1 := (x 0).isLt; show (x 0).val = 0; omega)
    · rfl
    · rfl
  have e1 := window_at w X1 X3 o 2 inb ⟨s, hs⟩ ⟨(x 1).val, h1⟩ ⟨4 + (x 1).val, by omega⟩ ⟨(x 2).val, h2⟩ (by simp; omega)
  rw [hx]
  refine (cast_up _ _ _ _).trans (e1.trans ?_)
  rw [longRow, dif_neg (by simp; omega)]
  refine congrArg X1 ?_
  funext a
  fin_cases a
  · exact Fin.ext (by show 4 * s + (4 + (x 1).val - 2) = r.val; omega)
  · exact Fin.ext (by show 1024 + (x 2).val = k.val; omega)

set_option maxHeartbeats 0 in
theorem tail_at (c : Dev nD) (i : grid0.Coords) (arg1 : Memref sig .tc .vmem S64x5120 .bf16) (harg1 : arg1.IsWhole) (arg2 : Memref sig .tc .vmem S64x2048 .f32) (harg2 : arg2.IsWhole) (arg3 : Memref sig .tc .vmem S16x8x128x128 .f32) (harg3 : arg3.IsWhole) (arg4 : Memref sig .tc .vmem S16x2x1024 .f32) (harg4 : arg4.IsWhole) (arg5 : Memref sig .tc .vmem S1x1024 .f32) (harg5 : arg5.IsWhole) (arg6 : Memref sig .tc .vmem S3x1024 .f32) (harg6 : arg6.IsWhole) (arg7 : Memref sig .tc .vmem S192x192 .bf16) (harg7 : arg7.IsWhole) (arg8 : Memref sig .tc .vmem S64x64 .f32) (harg8 : arg8.IsWhole) (arg9 : Memref sig .tc .vmem S64x2048 .bf16) (harg9 : arg9.IsWhole) (arg10 : Memref sig .tc .vmem S16x8x128x128 .f32) (harg10 : arg10.IsWhole) (arg11 : Memref sig .tc .vmem S16x2x1024 .f32) (harg11 : arg11.IsWhole) (arg12 : Memref sig .tc .vmem S128x1024 .f32) (harg12 : arg12.IsWhole) (arg13 : Memref sig .tc .vmem S64x1024 .f32) (harg13 : arg13.IsWhole)
    (x0 : Vec Ideal S64x5120 .bf16) (x1 : Vec Ideal S64x2048 .f32) (x2 : Vec Ideal S16x8x128x128 .f32) (x3 : Vec Ideal S16x2x1024 .f32) (x4 : Vec Ideal S1x1024 .f32) (x5 : Vec Ideal S3x1024 .f32) (x6 : Vec Ideal S192x192 .bf16) (x7 : Vec Ideal S64x64 .f32) (y : S16x2x1024.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
      = x1 (ix2 ⟨4 * (y 0).val + (2 + (y 1).val), by
            have h0 : (y 0).val < 16 := (y 0).isLt
            have h1 : (y 1).val < 2 := (y 1).isLt
            omega⟩
          ⟨1024 + (y 2).val, by
            have h2 : (y 2).val < 1024 := (y 2).isLt
            omega⟩) := by
  unfold out0_A_10
  rw [View.read_writes_junk_eq_canon]
  dsimp only [kernelRun0_A]
  canon_tiles x e using cover0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 y
  all_goals
    frame_out
    refine kept_at (s := (y 0).val) (ho := by have : (x 0).val < 1 := (x 0).isLt; omega) (hs := (y 0).isLt) (hr := by simp; omega) (hk := by simp; omega) ..

end Cert.KernelIdeal.Mine

end
-- ==== Proof.Mix.Arrays.lean ====
module

public import proofs.«01_k».proof.Proof.Mix.Operands
public import proofs.«01_k».proof.Proof.Mix.Layer
public import proofs.«01_k».proof.Proof.Mix.Rows
public import proofs.«01_k».proof.Proof.Mix.Conv
public import proofs.«01_k».proof.Proof.Mix.Tail

/-!
# The arrays the mixer leaves, in terms of the arrays it is given
-/

@[expose] public section

set_option maxRecDepth 16384

noncomputable section

namespace Cert.KernelIdeal.Mine

open Cert.KernelIdeal Cert.KernelIdeal.Gen Cert.KernelIdeal.Value Idealize.ShloMosaic Idealize.ShloMosaic.TcCoe Idealize.ShloMosaic.Tactic Idealize.SL.Sem

variable (m : (ℓ : Loc nD τ sig) → Buf (Elt Ideal) ℓ)

/-- The log-decays a grid point is given. -/
abbrev decays (c : Dev nD) (t : Fin cfg0.N) : FVec Ideal S64x1024 .f32 :=
  View.ld (Val := Elt Ideal) (S := S64x2048) (e' := .f32) (iblk m c 1 t) (Rect.unit (s := S64x2048) ![0, 0] ![64, 1024] inb_S64x2048_S64x1024_0_0)

/-- The scaled sums of log-decays at a grid point. -/
abbrev sums (c : Dev nD) (t : Fin cfg0.N) : FVec Ideal S192x1024 .f32 := k0_pay73 (F := Ideal) (iblk m c 6 t) (decays m c t)

theorem decays_at (c : Dev nD) (t : Fin cfg0.N) (r : Fin 64) (k : Fin 1024) (R : Fin 576) (hR : R.val = 64 * t.val + r.val) :
    decays m c t (ix2 r k) = m ((c : Thread nD τ).loc main_arg1) (ix2 R ⟨k.val, by omega⟩) :=
  (View.ld_unit_apply_of (Val := Elt Ideal) (S := S64x2048) (e := .f32) (iblk m c 1 t) _ _ inb_S64x2048_S64x1024_0_0
    (ix2 r k) (ix2 r ⟨k.val, by omega⟩) fun a => by fin_cases a <;> simp [ix2]).trans (rows1_at m c t r _ R hR)

section Decays

variable (c : Dev nD)
  (hA : ∀ (r : Fin 576) (j : Fin 2048), r.val < 512 → j.val < 1024 → (m ((c : Thread nD τ).loc main_arg1) (ix2 r j) : EReal) ≠ (⊤ : EReal))

include hA in
theorem decays_ne_top (t : Fin cfg0.N) (r : Fin 64) (k : Fin 1024) : (decays m c t (ix2 r k) : EReal) ≠ (⊤ : EReal) := by
  have ht := point_lt t
  rw [decays_at m c t r k ⟨64 * t.val + r.val, by omega⟩ rfl]
  exact hA _ _ (by simp only []; omega) (by simp only []; omega)

include hA in
theorem powers_ne_top (t : Fin cfg0.N) (r : Fin 192) (k : Fin 1024) : Ideal.exp2 (sums m c t (ix2 r k)) ≠ ⊤ :=
  table_power_ne_top _ _ (fun r k => table_at m c t r k) (fun r k => decays_ne_top m c hA t r k) r k

include hA in
theorem sums_at (t : Fin cfg0.N) (b : ℕ) (hb : b < 3) (s : Fin 16) (p p' : Fin 4) (S : Fin 128) (hS : S.val = 16 * t.val + s.val)
    (hp : ∀ q : Fin 4, reach b p.val q.val = decide (q.val ≤ p'.val)) (r : Fin 192) (hr : r.val = 64 * b + (4 * s.val + p.val)) (k : Fin 1024) :
    sums m c t (ix2 r k) = cumOf (m ((c : Thread nD τ).loc main_arg1)) S p' k * (scale : EReal) := by
  refine (decay_row _ _ (fun r k => table_at m c t r k) (fun r k => decays_ne_top m c hA t r k) b hb s p r hr k).trans ?_
  refine congrArg (· * (scale : EReal)) (cum_of _ _ b s p p' S k (fun q => ?_) hp)
  exact decays_at m c t _ k ⟨4 * S.val + q.val, by omega⟩ (by simp only []; omega)

include hA in
theorem sums0_at (t : Fin cfg0.N) (s : Fin 16) (S : Fin 128) (hS : S.val = 16 * t.val + s.val) (p : Fin 4) (k : Fin 1024) :
    sums m c t (ix2 ⟨4 * s.val + p.val, by omega⟩ k) = cumOf (m ((c : Thread nD τ).loc main_arg1)) S p k * (scale : EReal) :=
  sums_at m c hA t 0 (by omega) s p p S hS (fun q => rfl) _ (show 4 * s.val + p.val = 64 * 0 + (4 * s.val + p.val) by omega) k

include hA in
theorem sums1_at (t : Fin cfg0.N) (s : Fin 16) (S : Fin 128) (hS : S.val = 16 * t.val + s.val) (p : Fin 4) (k : Fin 1024) :
    sums m c t (ix2 ⟨64 + (4 * s.val + p.val), by omega⟩ k) = cumOf (m ((c : Thread nD τ).loc main_arg1)) S 2 k * (scale : EReal) :=
  sums_at m c hA t 1 (by omega) s p 2 S hS (fun q => rfl) _ (show 64 + (4 * s.val + p.val) = 64 * 1 + (4 * s.val + p.val) by omega) k

include hA in
theorem sums2_at (t : Fin cfg0.N) (s : Fin 16) (S : Fin 128) (hS : S.val = 16 * t.val + s.val) (p : Fin 4) (k : Fin 1024) :
    sums m c t (ix2 ⟨128 + (4 * s.val + p.val), by omega⟩ k) = cumOf (m ((c : Thread nD τ).loc main_arg1)) S 3 k * (scale : EReal) :=
  sums_at m c hA t 2 (by omega) s p 3 S hS (fun q => (decide_eq_true (show q.val ≤ 3 by omega)).symm) _ (show 128 + (4 * s.val + p.val) = 64 * 2 + (4 * s.val + p.val) by omega) k

include hA in
/-- The states at the end. -/
theorem states_end (i : S128x8x128x128.Idx) :
    (dats m 0 c).arrAt 9 cfg0.N i = stateOf (m ((c : Thread nD τ).loc main_arg0)) (m ((c : Thread nD τ).loc main_arg1))
      (m ((c : Thread nD τ).loc main_arg2)) (i 0) (i 1) (i 2) (i 3) := by
  have h0 : (i 0).val < 128 := (i 0).isLt
  obtain ⟨t, ht⟩ : ∃ t : Fin cfg0.N, t.val = (i 0).val / 16 := ⟨⟨(i 0).val / 16, by rw [show cfg0.N = 8 from N_0]; omega⟩, rfl⟩
  obtain ⟨s, hs⟩ : ∃ s : Fin 16, s.val = (i 0).val % 16 := ⟨⟨(i 0).val % 16, by omega⟩, rfl⟩
  have hS : (i 0).val = 16 * t.val + s.val := by omega
  have e : ((cfg0.win 9).blk t).view.emb (ix4 s (i 1) (i 2) (i 3)) = i := by
    blk_ext [idx t]
  have a := (congrFun (blocks9 m c t (flush0_9 t)) (ix4 s (i 1) (i 2) (i 3))).trans (congrFun (flushed9_A m c t) (ix4 s (i 1) (i 2) (i 3)))
  refine (congrArg ((dats m 0 c).arrAt 9 cfg0.N) e.symm).trans (a.trans ?_)
  refine (states_at c (grid0.coords t) _ _ _ _ _ _ _ _ _ _ _ _ _ _ _ _ _ _ _ _ _ _ _ _ _ _ _ _ _ _ _ _ _ _ _ (iblk m c 0 t) (sums m c t)
    (Memref.IsWhole.read_unread ..) ?_ (fun r k => powers_ne_top m c hA t r k)).trans ?_
  · rw [Memref.IsWhole.read_unread, Memref.IsWhole.read_unread, View.ld_unit_lit' _ _ (fun a => by fin_cases a <;> rfl)]
  · exact state_of _ _ _ _ _ _ s (i 0) (fun p j => rows0_at m c t _ j ⟨4 * (i 0).val + p.val, by omega⟩ (by simp only []; omega)) (fun h k v => old_at m c t s h k v _ hS)
      (sums0_at m c hA t s _ hS) (sums2_at m c hA t s _ hS) (i 1) (i 2) (i 3)

include hA in
/-- The mixer's rows at the end. -/
theorem mix_end (i : S512x2048.Idx) (S : Fin 128) (p : Fin 4) (hi : (i 0).val = 4 * S.val + p.val) :
    (dats m 0 c).arrAt 8 cfg0.N i = mixOf (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) S p (i 1) := by
  have h1 : (i 1).val < 2048 := (i 1).isLt
  obtain ⟨t, ht⟩ : ∃ t : Fin cfg0.N, t.val = S.val / 16 := ⟨⟨S.val / 16, by rw [show cfg0.N = 8 from N_0]; omega⟩, rfl⟩
  obtain ⟨s, hs⟩ : ∃ s : Fin 16, s.val = S.val % 16 := ⟨⟨S.val % 16, by omega⟩, rfl⟩
  have hS : S.val = 16 * t.val + s.val := by omega
  obtain ⟨r, hr⟩ : ∃ r : Fin 64, r.val = 4 * s.val + p.val := ⟨⟨4 * s.val + p.val, by omega⟩, rfl⟩
  have e : ((cfg0.win 8).blk t).view.emb (ix2 r (i 1)) = i := by
    blk_ext [idx t]
  have a := (congrFun (blocks8 m c t (flush0_8 t)) (ix2 r (i 1))).trans (congrFun (flushed8_A m c t) (ix2 r (i 1)))
  refine (congrArg ((dats m 0 c).arrAt 8 cfg0.N) e.symm).trans (a.trans ?_)
  have g0 : ∀ (p : Fin 4) (j : Fin 5120), iblk m c 0 t (ix2 ⟨4 * s.val + p.val, by omega⟩ j)
      = m ((c : Thread nD τ).loc main_arg0) (ix2 ⟨4 * S.val + p.val, by omega⟩ j) :=
    fun p j => rows0_at m c t _ j ⟨4 * S.val + p.val, by omega⟩ (by simp only []; omega)
  unfold mixOf
  by_cases hj : (i 1).val < 1024
  · rw [dif_pos hj]
    refine (heads_at c (grid0.coords t) _ _ _ _ _ _ _ _ _ _ _ _ _ _ _ _ _ _ _ _ _ _ _ _ _ _ _ _ _ _ _ _ _ _ _ (sums m c t) rfl
      (fun r r' => mask_at m c t r r') s p ⟨(i 1).val / 128, by omega⟩ ⟨(i 1).val % 128, by omega⟩ hr
      (show (i 1).val = 128 * ((i 1).val / 128) + (i 1).val % 128 by omega)).trans ?_
    exact head_of _ _ _ _ _ _ _ _ s S g0 (fun h k v => old_at m c t s h k v _ hS) (fun k => gain_at m c t k)
      (sums0_at m c hA t s _ hS) (sums1_at m c hA t s _ hS) p _ _
  · rw [dif_neg hj]
    refine (conv_at c (grid0.coords t) _ _ _ _ _ _ _ _ _ _ _ _ _ _ _ _ _ _ _ _ _ _ _ _ _ _ _ _ _ _ _ _ _ _ _ s p
      ⟨(i 1).val - 1024, by omega⟩ hr (show (i 1).val = 1024 + ((i 1).val - 1024) by omega)).trans ?_
    refine congrArg₂ (fun a b : EReal => a * b) (g0 p _) ?_
    exact conv_of _ _ _ _ _ _ s S (fun p j => rows1_at m c t _ j ⟨4 * S.val + p.val, by omega⟩ (by simp only []; omega))
      (fun p k => keptRows_at m c t s p k _ hS) (fun j k => taps_at m c t j k) p _

end Decays

/-- The kept rows at the end. -/
theorem kept_end (c : Dev nD) (i : S128x2x1024.Idx) (R : Fin 576) (j : Fin 2048) (hR : R.val = 4 * (i 0).val + (2 + (i 1).val)) (hj : j.val = 1024 + (i 2).val) :
    (dats m 0 c).arrAt 10 cfg0.N i = m ((c : Thread nD τ).loc main_arg1) (ix2 R j) := by
  have h0 : (i 0).val < 128 := (i 0).isLt
  have h1 : (i 1).val < 2 := (i 1).isLt
  obtain ⟨t, ht⟩ : ∃ t : Fin cfg0.N, t.val = (i 0).val / 16 := ⟨⟨(i 0).val / 16, by rw [show cfg0.N = 8 from N_0]; omega⟩, rfl⟩
  obtain ⟨s, hs⟩ : ∃ s : Fin 16, s.val = (i 0).val % 16 := ⟨⟨(i 0).val % 16, by omega⟩, rfl⟩
  have e : ((cfg0.win 10).blk t).view.emb (ix3 s (i 1) (i 2)) = i := by
    blk_ext [idx t]
  have a := (congrFun (blocks10 m c t (flush0_10 t)) (ix3 s (i 1) (i 2))).trans (congrFun (flushed10_A m c t) (ix3 s (i 1) (i 2)))
  refine (congrArg ((dats m 0 c).arrAt 10 cfg0.N) e.symm).trans (a.trans ?_)
  refine (tail_at c (grid0.coords t) ..).trans ?_
  refine (rows1_at m c t _ _ R ?_).trans (congrArg (fun j => m ((c : Thread nD τ).loc main_arg1) (ix2 R j)) (Fin.ext hj.symm))
  show R.val = 64 * t.val + (4 * s.val + (2 + (i 1).val))
  omega

end Cert.KernelIdeal.Mine

end
-- ==== Proof.Mix.Ref.lean ====
module

public import proofs.«01_k».proof.Proof.Gen.ReferenceIdeal.Read
public import proofs.«01_k».proof.Proof.Mix.Layer
public import Idealize.ShloMosaic.Lib.Pipeline.ValueKit

/-!
# The reference's mixer, entry by entry
-/

@[expose] public section

set_option maxRecDepth 16384

noncomputable section

namespace Cert.ReferenceIdeal.Mine

open Cert.ReferenceIdeal Cert.ReferenceIdeal.Gen Cert.ReferenceIdeal.Read Idealize.ShloMosaic Idealize.ShloMosaic.TcCoe Idealize.ShloMosaic.Tactic Idealize.SL.Sem
open Cert.KernelIdeal.Mine

/-- The window of a running sum over four positions. -/
abbrev win : Shape := ⟨4, ![1, 1, 4, 1]⟩

theorem win_at : ∀ n : Fin win.numel, ∀ a : Fin 4, (win.rowMajor.symm n a).val = if a = 2 then n.val else 0 := by decide +kernel

theorem win_term (x : FVec Ideal S128x8x4x128 .f32) (v : EReal) (s : Fin 128) (h : Fin 8) (p : Fin 4) (k : Fin 128) (n : Fin win.numel) (j : S128x8x4x128.Idx)
    (hj : j = ix4 s h p k)
    (d : Decidable (∀ a : Fin 4, (![0, 0, 3, 0] : Fin 4 → ℕ) a ≤ (j a).val * (![1, 1, 1, 1] : Fin 4 → ℕ) a + (win.rowMajor.symm n a).val
        ∧ (j a).val * (![1, 1, 1, 1] : Fin 4 → ℕ) a + (win.rowMajor.symm n a).val - (![0, 0, 3, 0] : Fin 4 → ℕ) a < S128x8x4x128.size a)) :
    @dite EReal _ d
      (fun hin => x (fun a => ⟨(j a).val * (![1, 1, 1, 1] : Fin 4 → ℕ) a + (win.rowMajor.symm n a).val - (![0, 0, 3, 0] : Fin 4 → ℕ) a, (hin a).2⟩))
      (fun _ => v)
      = if hin : 3 ≤ p.val + n.val ∧ p.val + n.val - 3 < 4 then x (ix4 s h ⟨p.val + n.val - 3, hin.2⟩ k) else v := by
  subst hj
  have e : ∀ a : Fin 4, (win.rowMajor.symm n a).val = if a = 2 then n.val else 0 := win_at n
  by_cases hn : 3 ≤ p.val + n.val ∧ p.val + n.val - 3 < 4
  · rw [dif_pos hn, dif_pos]
    · refine congrArg x (funext fun a => Fin.ext ?_)
      simp only [e]
      fin_cases a <;> simp [ix4]
    · intro a
      rw [e]
      fin_cases a <;> simp [ix4]
      omega
  · rw [dif_neg hn, dif_neg]
    intro hin
    have := hin 2
    rw [e] at this
    simp [ix4] at this
    omega

/-- A running sum over the four positions. -/
theorem running (x : FVec Ideal S128x8x4x128 .f32) (z : FVec Ideal S_ .f32) (hz : ∀ i, z i = (0 : EReal)) (w h0) (s : Fin 128) (h : Fin 8) (p : Fin 4) (k : Fin 128) :
    (Host.reduceWindowAdd ![1, 1, 4, 1] ![1, 1, 1, 1] ![0, 0, 3, 0] ![0, 0, 0, 0] x z w h0 (ix4 s h p k) : EReal)
      = ∑ q : Fin 4, if q.val ≤ p.val then (x (ix4 s h q k) : EReal) else 0 := by
  have hv : z (Shape.Idx.first h0) = (0 : EReal) := hz _
  show Host.reduceWindow (fun a b : EReal => a + b) ![1, 1, 4, 1] ![1, 1, 1, 1] ![0, 0, 3, 0] ![0, 0, 0, 0] x
    (fun _ : (⟨0, ![]⟩ : Shape).Idx => z (Shape.Idx.first h0)) w (by decide) (ix4 s h p k) = _
  rw [hv]
  unfold Host.reduceWindow
  refine Eq.trans (b := List.foldl (fun (r : EReal) (n : Fin win.numel) => r + (if hin : 3 ≤ p.val + n.val ∧ p.val + n.val - 3 < 4
    then (x (ix4 s h ⟨p.val + n.val - 3, hin.2⟩ k) : EReal) else 0)) 0 (List.finRange win.numel)) ?_ ?_
  · refine congrArg (fun f => List.foldl f (0 : EReal) (List.finRange win.numel)) (funext fun r : EReal => funext fun n : Fin win.numel => ?_)
    refine congrArg (fun e : EReal => r + e) ?_
    exact @win_term x 0 s h p k n _ rfl _
  rw [show List.finRange win.numel = [⟨0, by decide⟩, ⟨1, by decide⟩, ⟨2, by decide⟩, ⟨3, by decide⟩] from by decide +kernel]
  simp only [List.foldl]
  rw [Fin.sum_univ_four]
  fin_cases p <;> simp [ix4]

section Entries

variable (x0 : FVec Ideal S576x5120 .bf16) (x1 : FVec Ideal S576x2048 .f32) (x2 : FVec Ideal S128x8x128x128 .f32)

theorem query_at (s : Fin 128) (h : Fin 8) (p : Fin 4) (k : Fin 128) :
    (val_main_v3 (F := Ideal) x0 (ix4 s h p k) : EReal) = x0 (ix2 ⟨4 * s.val + p.val, by omega⟩ ⟨128 * h.val + k.val, by omega⟩) := by
  rw [val_main_v3_apply, val_main_v2_apply, val_main_v1_apply, val_main_v0_apply]
  refine congrArg x0 (funext fun a => Fin.ext ?_)
  fin_cases a
  · show (((s.val * 4 + p.val) * 8 + h.val) * 128 + k.val) / 1024 = 4 * s.val + p.val
    omega
  · show (((s.val * 4 + p.val) * 8 + h.val) * 128 + k.val) % 1024 = 128 * h.val + k.val
    omega

theorem key_at (s : Fin 128) (h : Fin 8) (p : Fin 4) (k : Fin 128) :
    (val_main_v7 (F := Ideal) x0 (ix4 s h p k) : EReal) = x0 (ix2 ⟨4 * s.val + p.val, by omega⟩ ⟨1024 + (128 * h.val + k.val), by omega⟩) := by
  rw [val_main_v7_apply, val_main_v6_apply, val_main_v5_apply, val_main_v4_apply]
  refine congrArg x0 (funext fun a => Fin.ext ?_)
  fin_cases a
  · show (((s.val * 4 + p.val) * 8 + h.val) * 128 + k.val) / 1024 = 4 * s.val + p.val
    omega
  · show 1024 + (((s.val * 4 + p.val) * 8 + h.val) * 128 + k.val) % 1024 = 1024 + (128 * h.val + k.val)
    omega

theorem value_at (s : Fin 128) (h : Fin 8) (p : Fin 4) (k : Fin 128) :
    (val_main_v11 (F := Ideal) x0 (ix4 s h p k) : EReal) = x0 (ix2 ⟨4 * s.val + p.val, by omega⟩ ⟨2048 + (128 * h.val + k.val), by omega⟩) := by
  rw [val_main_v11_apply, val_main_v10_apply, val_main_v9_apply, val_main_v8_apply]
  refine congrArg x0 (funext fun a => Fin.ext ?_)
  fin_cases a
  · show (((s.val * 4 + p.val) * 8 + h.val) * 128 + k.val) / 1024 = 4 * s.val + p.val
    omega
  · show 2048 + (((s.val * 4 + p.val) * 8 + h.val) * 128 + k.val) % 1024 = 2048 + (128 * h.val + k.val)
    omega

theorem decay_at (s : Fin 128) (h : Fin 8) (p : Fin 4) (k : Fin 128) :
    (val_main_v14 (F := Ideal) x1 (ix4 s h p k) : EReal) = x1 (ix2 ⟨4 * s.val + p.val, by omega⟩ ⟨128 * h.val + k.val, by omega⟩) := by
  rw [val_main_v14_apply, val_main_v13_apply, val_main_v12_apply]
  refine congrArg x1 (funext fun a => Fin.ext ?_)
  fin_cases a
  · show (((s.val * 4 + p.val) * 8 + h.val) * 128 + k.val) / 1024 = 4 * s.val + p.val
    omega
  · show (((s.val * 4 + p.val) * 8 + h.val) * 128 + k.val) % 1024 = 128 * h.val + k.val
    omega

theorem cum_at (s : Fin 128) (h : Fin 8) (p : Fin 4) (k : Fin 128) :
    (val_main_v22 (F := Ideal) x1 (ix4 s h p k) : EReal) = cumOf x1 s p ⟨128 * h.val + k.val, by omega⟩ := by
  unfold val_main_v22 cumOf
  refine (running _ _ (fun i => ?_) _ _ s h p k).trans (Finset.sum_congr rfl fun q _ => ?_)
  · rw [val_main_call1_call0_v0_apply, val_main_call1_call0_cst_apply]
    exact Ideal.ofBits_zero_f32
  · rw [decay_at]

theorem cum_mid (s : Fin 128) (h : Fin 8) (p : Fin 4) (k : Fin 128) :
    (val_main_v25 (F := Ideal) x1 (ix4 s h p k) : EReal) = cumOf x1 s 2 ⟨128 * h.val + k.val, by omega⟩ := by
  rw [val_main_v25_apply, val_main_v23_apply, ← cum_at]
  exact congrArg (val_main_v22 (F := Ideal) x1) (funext fun a => by fin_cases a <;> rfl)

theorem cum_mid' (s : Fin 128) (h : Fin 8) (p : Fin 4) (k : Fin 128) :
    (val_main_v29 (F := Ideal) x1 (ix4 s h p k) : EReal) = cumOf x1 s 2 ⟨128 * h.val + k.val, by omega⟩ := by
  rw [val_main_v29_apply, val_main_v23_apply, ← cum_at]
  exact congrArg (val_main_v22 (F := Ideal) x1) (funext fun a => by fin_cases a <;> rfl)

theorem cum_last (s : Fin 128) (h : Fin 8) (p : Fin 4) (k : Fin 128) :
    (val_main_v45 (F := Ideal) x1 (ix4 s h p k) : EReal) = cumOf x1 s 3 ⟨128 * h.val + k.val, by omega⟩ := by
  rw [val_main_v45_apply, val_main_v24_apply, ← cum_at]
  exact congrArg (val_main_v22 (F := Ideal) x1) (funext fun a => by fin_cases a <;> rfl)

theorem cum_whole (s : Fin 128) (h : Fin 8) (k v : Fin 128) :
    (val_main_v43 (F := Ideal) x1 (ix4 s h k v) : EReal) = Ideal.exp (cumOf x1 s 3 ⟨128 * h.val + k.val, by omega⟩) := by
  rw [val_main_v43_apply, val_main_v42_apply, val_main_v41_apply, val_main_v40_apply, val_main_v24_apply, ← cum_at]
  refine congrArg (fun e : EReal => Ideal.exp e) (congrArg (val_main_v22 (F := Ideal) x1) (funext fun a => Fin.ext ?_))
  fin_cases a
  · show ((s.val * 8 + h.val) * 128 + k.val) / 1024 = s.val
    omega
  · show ((s.val * 8 + h.val) * 128 + k.val) / 128 % 8 = h.val
    omega
  · rfl
  · show ((s.val * 8 + h.val) * 128 + k.val) % 128 = k.val
    omega

/-- The reference's new state. -/
theorem state_at (s : Fin 128) (h : Fin 8) (k v : Fin 128) :
    (val_main_v50 (F := Ideal) x0 x1 x2 (ix4 s h k v) : EReal) = stateOf x0 x1 x2 s h k v := by
  rw [val_main_v50_apply, val_main_v44_apply, cum_whole, val_main_v49_apply]
  unfold stateOf
  refine congrArg (fun e : EReal => _ + e) (Finset.sum_congr rfl fun p _ => ?_)
  rw [show lidx_main_v49 (ix4 s h k v) p = ix4 s h p k from funext fun a => by fin_cases a <;> rfl,
    show ridx_main_v49 (ix4 s h k v) p = ix4 s h p v from funext fun a => by fin_cases a <;> rfl,
    val_main_v48_apply, val_main_v47_apply, val_main_v46_apply, cum_last, cum_at, key_at, value_at]
  rfl

theorem lower_at (p p' : Fin 4) : (val_main_v21 (F := Ideal) (ix2 p p')) = if p'.val ≤ p.val then 1#1 else 0#1 := by
  rw [val_main_v21_apply, val_main_v20_apply, val_main_c_apply, val_main_call0_v5_apply, val_main_call0_c_0_apply, val_main_call0_v4_apply,
    val_main_call0_v2_apply, val_main_call0_v0_apply, val_main_call0_v1_apply, val_main_call0_c_apply, val_main_call0_v3_apply]
  revert p p'
  decide +kernel

theorem score_at (s : Fin 128) (h : Fin 8) (p p' : Fin 4) :
    (val_main_v34 (F := Ideal) x0 x1 (ix4 s h p p') : EReal) = if p'.val ≤ p.val then scoreOf x0 x1 s h p p' else 0 := by
  rw [val_main_v34_apply, val_main_call2_v1_apply, val_main_call2_v2_apply, val_main_call2_v0_apply, val_main_cst_apply,
    show idx_main_call2_v1 (ix4 s h p p') = ix2 p p' from funext fun a => by fin_cases a <;> rfl, lower_at]
  by_cases hp : p'.val ≤ p.val
  · rw [if_pos hp, if_pos hp]
    refine Eq.trans (b := val_main_v33 (F := Ideal) x0 x1 (ix4 s h p p')) rfl ?_
    rw [val_main_v33_apply]
    unfold scoreOf
    refine Finset.sum_congr rfl fun k _ => ?_
    rw [show lidx_main_v33 (ix4 s h p p') k = ix4 s h p k from funext fun a => by fin_cases a <;> rfl,
      show ridx_main_v33 (ix4 s h p p') k = ix4 s h p' k from funext fun a => by fin_cases a <;> rfl,
      val_main_v28_apply, val_main_v27_apply, val_main_v26_apply, val_main_v32_apply, val_main_v31_apply, val_main_v30_apply,
      cum_mid, cum_mid', cum_at, cum_at, query_at, key_at]
    rfl
  · rw [if_neg hp, if_neg hp]
    exact Ideal.ofBits_zero_f32

/-- A row of a head before the norm. -/
theorem mixed_at (s : Fin 128) (p : Fin 4) (h : Fin 8) (v : Fin 128) :
    (val_main_v39 (F := Ideal) x0 x1 x2 (ix4 s h p v) : EReal) = mixedOf x0 x1 x2 s p h v := by
  rw [val_main_v39_apply, val_main_v35_apply, val_main_v38_apply]
  unfold mixedOf
  refine congrArg₂ (fun e e' : EReal => e + e') (Finset.sum_congr rfl fun p' _ => ?_) (Finset.sum_congr rfl fun k _ => ?_)
  · rw [show lidx_main_v35 (ix4 s h p v) p' = ix4 s h p p' from funext fun a => by fin_cases a <;> rfl,
      show ridx_main_v35 (ix4 s h p v) p' = ix4 s h p' v from funext fun a => by fin_cases a <;> rfl, score_at, value_at]
  · rw [show lidx_main_v38 (ix4 s h p v) k = ix4 s h p k from funext fun a => by fin_cases a <;> rfl,
      show ridx_main_v38 (ix4 s h p v) k = ix4 s h k v from funext fun a => by fin_cases a <;> rfl,
      val_main_v37_apply, val_main_v36_apply, cum_at, query_at]
    rfl

/-- The factor a row is normed with. -/
theorem norm_at (s : Fin 128) (p : Fin 4) (h : Fin 8) (v : Fin 128) :
    (val_main_v59 (F := Ideal) x0 x1 x2 (ix4 s h p v) : EReal)
      = overRoot (∑ v' : Fin 128, mixedOf x0 x1 x2 s p h v' * mixedOf x0 x1 x2 s p h v') := by
  have e : (val_main_v52 (F := Ideal) x0 x1 x2 (ix3 s h p) : EReal) = ∑ v' : Fin 128, mixedOf x0 x1 x2 s p h v' * mixedOf x0 x1 x2 s p h v' := by
    rw [val_main_v52_apply, val_main_cst_0_apply]
    refine (congrArg (fun e : EReal => e + _) Ideal.ofBits_zero_f32).trans ((zero_add _).trans (Finset.sum_congr rfl fun v' _ => ?_))
    rw [show idx_main_v52 (ix3 s h p) v' = ix4 s h p v' from funext fun a => by fin_cases a <;> rfl, val_main_v51_apply, mixed_at]
    rfl
  rw [val_main_v59_apply, val_main_v58_apply, val_main_v57_apply, val_main_v55_apply, val_main_v56_apply, val_main_v54_apply, val_main_v53_apply,
    val_main_cst_1_apply, val_main_cst_2_apply, show idx_main_v53 (idx_main_v59 (ix4 s h p v)) = ix3 s h p from funext fun a => by fin_cases a <;> rfl, e]
  rfl

variable (x3 : FVec Ideal S128x2x1024 .f32) (x4 : FVec Ideal S1024 .f32) (x5 : FVec Ideal S3x1024 .f32)

theorem head_at (R : Fin 512) (j : Fin 1024) (s : Fin 128) (p : Fin 4) (h : Fin 8) (v : Fin 128) (hR : R.val = 4 * s.val + p.val) (hj : j.val = 128 * h.val + v.val) :
    (val_main_v66 (F := Ideal) x0 x1 x2 x4 (ix2 R j) : EReal) = headOf x0 x1 x2 x4 s p h v := by
  have e0 : idx_main_v61 (idx_main_v62 (ix2 R j)) = ix4 s h p v := funext fun a => Fin.ext (by
    fin_cases a
    · show (R.val * 1024 + j.val) / 4096 = s.val
      omega
    · show (R.val * 1024 + j.val) / 128 % 8 = h.val
      omega
    · show (R.val * 1024 + j.val) / 1024 % 4 = p.val
      omega
    · show (R.val * 1024 + j.val) % 128 = v.val
      omega)
  have e1 : idx_main_v63 (idx_main_v64 (ix2 R j)) = ix1 ⟨128 * h.val + v.val, by omega⟩ := funext fun a => Fin.ext (by
    fin_cases a
    exact hj)
  have e2 : idx_main_v15 (ix2 R j) = ix2 ⟨4 * s.val + p.val, by omega⟩ ⟨3072 + (128 * h.val + v.val), by omega⟩ := funext fun a => Fin.ext (by
    fin_cases a
    · exact hR
    · exact congrArg (3072 + ·) hj)
  rw [val_main_v66_apply, val_main_v65_apply, val_main_v62_apply, val_main_v61_apply, e0, val_main_v60_apply, mixed_at, norm_at,
    val_main_v64_apply, val_main_v63_apply, e1, val_main_v16_apply, val_main_v15_apply, e2]
  rfl

/-- The two rows kept from before, then the four new ones. -/
theorem long_at (s : Fin 128) (q : Fin 6) (k : Fin 1024) : (val_main_v68 (F := Ideal) x1 x3 (ix3 s q k) : Elt Ideal .f32) = longRowOf x1 x3 s q k := by
  unfold val_main_v68 longRowOf
  by_cases hq : q.val < 2
  · rw [dif_pos hq]
    exact concatenate_pair_apply_left (t := S128x6x1024) (s₁ := S128x2x1024) (s₂ := S128x4x1024) (1 : Fin 3) x3 (val_main_v67 (F := Ideal) x1)
      concatenates_S128x2x1024_S128x4x1024_S128x6x1024_d1 (ix3 s q k) rfl (ix3 s (⟨q.val, hq⟩ : Fin 2) k) (fun a : Fin 3 => by fin_cases a <;> rfl)
  · rw [dif_neg hq]
    refine (concatenate_pair_apply_right (t := S128x6x1024) (s₁ := S128x2x1024) (s₂ := S128x4x1024) (1 : Fin 3) x3 (val_main_v67 (F := Ideal) x1)
      concatenates_S128x2x1024_S128x4x1024_S128x6x1024_d1 (ix3 s q k) rfl rfl (ix3 s (⟨q.val - 2, by omega⟩ : Fin 4) k)
      (fun (a : Fin 3) (ha : a ≠ 1) => ?_) ?_).trans ?_
    · fin_cases a
      · rfl
      · exact absurd rfl ha
      · rfl
    · show q.val - 2 + 2 = q.val
      omega
    rw [val_main_v67_apply, val_main_v19_apply]
    refine congrArg x1 (funext fun a => Fin.ext ?_)
    fin_cases a
    · show ((s.val * 4 + (q.val - 2)) * 1024 + k.val) / 1024 = 4 * s.val + (q.val - 2)
      omega
    · show 1024 + ((s.val * 4 + (q.val - 2)) * 1024 + k.val) % 1024 = 1024 + k.val
      omega

/-- The convolution. -/
theorem conv_at (s : Fin 128) (q : Fin 4) (k : Fin 1024) : (val_main_v90 (F := Ideal) x1 x3 x5 (ix3 s q k) : EReal) = convOf x1 x3 x5 s q k := by
  have f0 : idx_main_v71 (ix3 s q k) = ix3 s ⟨q.val, by omega⟩ k := funext fun a => by fin_cases a <;> rfl
  have f1 : idx_main_v79 (ix3 s q k) = ix3 s ⟨q.val + 1, by omega⟩ k := funext fun a => Fin.ext (by
    fin_cases a
    · rfl
    · exact Nat.add_comm 1 q.val
    · rfl)
  have f2 : idx_main_v86 (ix3 s q k) = ix3 s ⟨q.val + 2, by omega⟩ k := funext fun a => Fin.ext (by
    fin_cases a
    · rfl
    · exact Nat.add_comm 2 q.val
    · rfl)
  have w0 : idx_main_v69 (idx_main_v70 (idx_main_v72 (idx_main_v73 (ix3 s q k)))) = ix2 (0 : Fin 3) k := funext fun a => Fin.ext (by
    fin_cases a
    · rfl
    · exact Nat.mod_eq_of_lt k.isLt)
  have w1 : idx_main_v77 (idx_main_v78 (idx_main_v80 (idx_main_v81 (ix3 s q k)))) = ix2 (1 : Fin 3) k := funext fun a => Fin.ext (by
    fin_cases a
    · rfl
    · exact Nat.mod_eq_of_lt k.isLt)
  have w2 : idx_main_v84 (idx_main_v85 (idx_main_v87 (idx_main_v88 (ix3 s q k)))) = ix2 (2 : Fin 3) k := funext fun a => Fin.ext (by
    fin_cases a
    · rfl
    · exact Nat.mod_eq_of_lt k.isLt)
  rw [val_main_v90_apply, val_main_v83_apply, val_main_v76_apply, val_main_v75_apply, val_main_cst_3_apply, val_main_v74_apply, val_main_v82_apply, val_main_v89_apply,
    val_main_v73_apply, val_main_v72_apply, val_main_v70_apply, val_main_v69_apply, w0, val_main_v71_apply, f0,
    val_main_v81_apply, val_main_v80_apply, val_main_v78_apply, val_main_v77_apply, w1, val_main_v79_apply, f1,
    val_main_v88_apply, val_main_v87_apply, val_main_v85_apply, val_main_v84_apply, w2, val_main_v86_apply, f2, long_at, long_at, long_at]
  unfold convOf
  refine congrArg (fun e : EReal => e + _ + _) ?_
  refine (congrArg (fun e : EReal => e + _) Ideal.ofBits_zero_f32).trans (zero_add _)

/-- What the two rows kept for the next step are. -/
theorem keep_at (s : Fin 128) (q : Fin 2) (k : Fin 1024) :
    (val_main_v95 (F := Ideal) x1 x3 (ix3 s q k) : Elt Ideal .f32) = x1 (ix2 ⟨4 * s.val + (2 + q.val), by omega⟩ ⟨1024 + k.val, by omega⟩) := by
  rw [val_main_v95_apply, show idx_main_v95 (ix3 s q k) = ix3 s ⟨4 + q.val, by omega⟩ k from funext fun a => by fin_cases a <;> rfl, long_at]
  unfold longRowOf
  rw [dif_neg (by show ¬ (4 + q.val < 2); omega)]
  refine congrArg x1 (funext fun a => Fin.ext ?_)
  fin_cases a
  · show 4 * s.val + (4 + q.val - 2) = 4 * s.val + (2 + q.val)
    omega
  · rfl

/-- The reference's mixer output. -/
theorem mix_at (R : Fin 512) (j : Fin 2048) (s : Fin 128) (p : Fin 4) (hR : R.val = 4 * s.val + p.val) :
    (val_main_v94 (F := Ideal) x0 x1 x2 x3 x4 x5 (ix2 R j) : EReal) = mixOf x0 x1 x2 x3 x4 x5 s p j := by
  rw [val_main_v94_apply]
  unfold val_main_v93 mixOf
  by_cases hj : j.val < 1024
  · rw [dif_pos hj]
    refine Eq.trans (concatenate_pair_apply_left (t := S512x2048) (s₁ := S512x1024) (s₂ := S512x1024) (1 : Fin 2) (val_main_v66 (F := Ideal) x0 x1 x2 x4)
      (val_main_v92 (F := Ideal) x0 x1 x3 x5) concatenates_S512x1024_S512x1024_S512x2048_d1
      (ix2 R j) rfl (ix2 R (⟨j.val, hj⟩ : Fin 1024)) (fun a : Fin 2 => by fin_cases a <;> rfl)) ?_
    exact head_at x0 x1 x2 x4 R ⟨j.val, hj⟩ s p ⟨j.val / 128, by omega⟩ ⟨j.val % 128, by omega⟩ hR (by show j.val = 128 * (j.val / 128) + j.val % 128; omega)
  · rw [dif_neg hj]
    refine Eq.trans (concatenate_pair_apply_right (t := S512x2048) (s₁ := S512x1024) (s₂ := S512x1024) (1 : Fin 2) (val_main_v66 (F := Ideal) x0 x1 x2 x4)
      (val_main_v92 (F := Ideal) x0 x1 x3 x5) concatenates_S512x1024_S512x1024_S512x2048_d1
      (ix2 R j) rfl rfl (ix2 R (⟨j.val - 1024, by omega⟩ : Fin 1024)) (fun (a : Fin 2) (ha : a ≠ 1) => ?_) ?_) ?_
    · fin_cases a
      · rfl
      · exact absurd rfl ha
    · show j.val - 1024 + 1024 = j.val
      omega
    have e0 : idx_main_v17 (ix2 R ⟨j.val - 1024, by omega⟩) = ix2 ⟨4 * s.val + p.val, by omega⟩ ⟨4096 + (j.val - 1024), by omega⟩ := funext fun a => Fin.ext (by
      fin_cases a
      · exact hR
      · rfl)
    have e1 : idx_main_v91 (ix2 R ⟨j.val - 1024, by omega⟩) = ix3 s p ⟨j.val - 1024, by omega⟩ := funext fun a => Fin.ext (by
      fin_cases a
      · show (R.val * 1024 + (j.val - 1024)) / 4096 = s.val
        omega
      · show (R.val * 1024 + (j.val - 1024)) / 1024 % 4 = p.val
        omega
      · show (R.val * 1024 + (j.val - 1024)) % 1024 = j.val - 1024
        omega)
    rw [val_main_v92_apply, val_main_v18_apply, val_main_v17_apply, e0, val_main_v91_apply, e1, conv_at]
    rfl

end Entries

end Cert.ReferenceIdeal.Mine

end
-- ==== Proof.Mix.Same.lean ====
module

public import proofs.«01_k».proof.Pre_decays_below_infinity
public import proofs.«01_k».proof.Proof.Mix.Arrays
public import proofs.«01_k».proof.Proof.Mix.Ref

/-!
# The mixer's three results are the reference's
-/

@[expose] public section

set_option maxRecDepth 16384

noncomputable section

namespace Cert.KernelIdeal.Mine

open Cert.KernelIdeal Cert.KernelIdeal.Gen Cert.KernelIdeal.Value Idealize.ShloMosaic Idealize.ShloMosaic.TcCoe Idealize.ShloMosaic.Tactic Idealize.SL.Sem

theorem below_facts : Cert.Pre_decays_below_infinity.Facts := ⟨by decide, by decide⟩

/-- What the precondition says of the array of log-decays. -/
theorem below_infinity (A0 : FVec Ideal S576x5120 .bf16) (A1 : FVec Ideal S576x2048 .f32) (A2 : FVec Ideal S128x8x128x128 .f32) (A3 : FVec Ideal S128x2x1024 .f32)
    (A4 : FVec Ideal S1024 .f32) (A5 : FVec Ideal S3x1024 .f32)
    (hp : letI := below_facts; Cert.Pre_decays_below_infinity.fn (F := Ideal) A0 A1 A2 A3 A4 A5 = fun _ => 1#1)
    (r : Fin 576) (j : Fin 2048) (hr : r.val < 512) (hj : j.val < 1024) : (A1 (ix2 r j) : EReal) ≠ (⊤ : EReal) := by
  letI := below_facts
  intro htop
  have e := congrFun hp (ix2 (⟨r.val, hr⟩ : Fin 512) (⟨j.val, hj⟩ : Fin 1024))
  have e1 : extractStridedSlice Cert.Pre_decays_below_infinity.S512x1024 ![0, 0] A1 Cert.Pre_decays_below_infinity.Facts.slices_S576x2048_S512x1024_0_0
      (ix2 (⟨r.val, hr⟩ : Fin 512) (⟨j.val, hj⟩ : Fin 1024)) = A1 (ix2 r j) :=
    extractStridedSlice_apply ![0, 0] A1 _ _ (ix2 r j) (fun a => by fin_cases a <;> exact (Nat.zero_add _).symm)
  have e2 : (FloatOps.cmpf (F := Ideal) (φ := .f32) .olt (extractStridedSlice Cert.Pre_decays_below_infinity.S512x1024 ![0, 0] A1 Cert.Pre_decays_below_infinity.Facts.slices_S576x2048_S512x1024_0_0
      (ix2 (⟨r.val, hr⟩ : Fin 512) (⟨j.val, hj⟩ : Fin 1024))) (FloatOps.ofBits .f32 0x7F800000#32)) = 1#1 := e
  rw [e1, htop] at e2
  have e3 : BitVec.ofBool (decide ((⊤ : EReal) < Ideal.ofBits .f32 0x7F800000#32)) = 1#1 := e2
  rw [decide_eq_false not_top_lt] at e3
  exact absurd e3 (by decide)

variable (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)

theorem same_mix
    (hA : ∀ (r : Fin 576) (j : Fin 2048), r.val < 512 → j.val < 1024 → (m ((c : Thread nD τ).loc main_arg1) (ix2 r j) : EReal) ≠ (⊤ : EReal)) :
    Cert.ReferenceIdeal.Read.val_main_v94 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      = (dats m 0 c).arrAt 8 cfg0.N := by
  funext i
  have h0 : (i 0).val < 512 := (i 0).isLt
  have hi : (i 0).val = 4 * ((i 0).val / 4) + (i 0).val % 4 := by omega
  refine Eq.trans (Eq.trans (congrArg _ (?_ : i = ix2 (i 0) (i 1)))
    (Cert.ReferenceIdeal.Mine.mix_at _ _ _ _ _ _ (i 0) (i 1) ⟨(i 0).val / 4, by omega⟩ ⟨(i 0).val % 4, by omega⟩ hi))
    (mix_end m c hA i ⟨(i 0).val / 4, by omega⟩ ⟨(i 0).val % 4, by omega⟩ hi).symm
  funext a
  fin_cases a <;> rfl

theorem same_state
    (hA : ∀ (r : Fin 576) (j : Fin 2048), r.val < 512 → j.val < 1024 → (m ((c : Thread nD τ).loc main_arg1) (ix2 r j) : EReal) ≠ (⊤ : EReal)) :
    Cert.ReferenceIdeal.Read.val_main_v50 (F := Ideal) (m ((c : Thread nD τ).loc main_arg0)) (m ((c : Thread nD τ).loc main_arg1))
      (m ((c : Thread nD τ).loc main_arg2)) = (dats m 0 c).arrAt 9 cfg0.N := by
  funext i
  refine Eq.trans (Eq.trans (congrArg _ (?_ : i = ix4 (i 0) (i 1) (i 2) (i 3))) (Cert.ReferenceIdeal.Mine.state_at _ _ _ (i 0) (i 1) (i 2) (i 3)))
    (states_end m c hA i).symm
  funext a
  fin_cases a <;> rfl

theorem same_kept :
    Cert.ReferenceIdeal.Read.val_main_v95 (F := Ideal) (m ((c : Thread nD τ).loc main_arg1)) (m ((c : Thread nD τ).loc main_arg3))
      = (dats m 0 c).arrAt 10 cfg0.N := by
  funext i
  refine Eq.trans (Eq.trans (congrArg _ (?_ : i = ix3 (i 0) (i 1) (i 2))) (Cert.ReferenceIdeal.Mine.keep_at _ _ (i 0) (i 1) (i 2)))
    (kept_end m c i _ _ rfl rfl).symm
  funext a
  fin_cases a <;> rfl

end Cert.KernelIdeal.Mine

end
-- ==== Proof.Outproj.Block.lean ====
module

public import proofs.«01_k».proof.Proof.Gen.OutprojIdeal.Value
public import Idealize.ShloMosaic.Lib.Pipeline.ValueKit

/-!
# The output projection call

The grid has sixteen points, one for each block of 512 rows. This module reads what each point is given, and what it
leaves in its block of the output.
-/

@[expose] public section

set_option maxRecDepth 16384

noncomputable section

namespace Cert.OutprojIdeal.Mine

open Cert.OutprojIdeal Cert.OutprojIdeal.Gen Cert.OutprojIdeal.Value Idealize.ShloMosaic Idealize.ShloMosaic.TcCoe Idealize.ShloMosaic.Tactic Idealize.SL.Sem

/-- Entry `j` of the normalisation of a row `v`, with scale `g` and shift `b`. -/
def normal (v g b : Fin 2048 → EReal) (j : Fin 2048) : EReal :=
  (v j - Ideal.div (∑ x, v x) (Ideal.ofBits .f32 0x45000000#32))
      * Ideal.rsqrt (Ideal.div (∑ x, (v x - Ideal.div (∑ x, v x) (Ideal.ofBits .f32 0x45000000#32))
            * (v x - Ideal.div (∑ x, v x) (Ideal.ofBits .f32 0x45000000#32))) (Ideal.ofBits .f32 0x45000000#32)
          + Ideal.ofBits .f32 0x3727C5AC#32) * g j + b j

/-- Entry `j` of the normalised row `v` as a residual, plus the row `u` through the weight `w`. -/
def joined (v u g b : Fin 2048 → EReal) (w : Fin 2048 → Fin 2048 → EReal) (j : Fin 2048) : EReal :=
  Ideal.ofBits .f32 0x3F9837F0#32 * normal v g b j + ∑ k : Fin 2048, u k * w k j

variable (m : (ℓ : Loc nD τ sig) → Buf (Elt Ideal) ℓ)

/-- Which block of each array a grid point is given. -/
theorem idx : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![0, 0] ∧ win0_6.index t = ![0, 0] ∧ win0_7.index t = ![t.val, 0] ∧ t.val < 16 :=
  (by decide +kernel : ∀ t : Fin grid0.N, _)

/-- The row of the arrays that row `a` of the point's block is. -/
def row (t : Fin cfg0.N) (a : Fin 512) : Fin 8192 := ⟨t.val * 512 + a.val, by have := (idx t).2.2.2.2.2.2.2.2; omega⟩

/-! ## The arrays the host prepares: the weight padded by 128 columns, and the rows of the two normalisations -/

theorem V_v4 (c : Dev nD) (i : S1x2048.Idx) : V m c main_v4 i = m ((c : Thread nD τ).loc main_arg3) (ix1 (i 1)) := by
  simp only [V, List.flatten_cons, List.flatten_nil, List.cons_append, List.nil_append, List.append_nil]
  after_results
  pointwise

theorem V_v5 (c : Dev nD) (i : S1x2048.Idx) : V m c main_v5 i = m ((c : Thread nD τ).loc main_arg4) (ix1 (i 1)) := by
  simp only [V, List.flatten_cons, List.flatten_nil, List.cons_append, List.nil_append, List.append_nil]
  after_results
  pointwise

theorem V_v6 (c : Dev nD) (i : S1x2048.Idx) : V m c main_v6 i = m ((c : Thread nD τ).loc main_arg5) (ix1 (i 1)) := by
  simp only [V, List.flatten_cons, List.flatten_nil, List.cons_append, List.nil_append, List.append_nil]
  after_results
  pointwise

theorem V_v7 (c : Dev nD) (i : S1x2048.Idx) : V m c main_v7 i = m ((c : Thread nD τ).loc main_arg6) (ix1 (i 1)) := by
  simp only [V, List.flatten_cons, List.flatten_nil, List.cons_append, List.nil_append, List.append_nil]
  after_results
  pointwise

theorem V_v3 (c : Dev nD) (a : Fin 2048) (b : Fin 2176) (h : b.val < 2048) :
    V m c main_v3 (ix2 a b) = m ((c : Thread nD τ).loc main_arg2) (ix2 a ⟨b.val, h⟩) := by
  simp only [V, List.flatten_cons, List.flatten_nil, List.cons_append, List.nil_append, List.append_nil,
    StableHlo.TRef.binary, StableHlo.TRef.nullary, StableHlo.TRef.unary, StableHlo.TRef.toBuf, StableHlo.TRef.ofBuf, cast_eq]
  after_results_simp
  pointwise
  rw [dif_pos h]

/-! ## The blocks a point is given -/

/-- Reading a whole block is reading the block. -/
theorem whole_at {e : EltTy} (X : S512x2048.Idx → Elt Ideal e) (y : S512x2048.Idx) : View.ld (Val := Elt Ideal) (S := S512x2048) (e' := e) X r0_0 y = X y := by
  refine congrArg X (?_ : r0_0.emb y = y)
  blk_ext

theorem line_at (X : S1x2048.Idx → Elt Ideal .f32) (y : S1x2048.Idx) : View.ld (Val := Elt Ideal) (S := S1x2048) (e' := .f32) X r0_1 y = X y := by
  refine congrArg X (?_ : r0_1.emb y = y)
  blk_ext

theorem rows_at (c : Dev nD) (t : Fin cfg0.N) (a : Fin 512) (x : Fin 2048) :
    View.ld (iblk m c 0 t) r0_0 (ix2 a x) = m ((c : Thread nD τ).loc main_arg0) (ix2 (row t a) x) := by
  refine (whole_at _ _).trans ?_
  blk_ext [iblk, V, idx t, row]

theorem mixed_at (c : Dev nD) (t : Fin cfg0.N) (a : Fin 512) (x : Fin 2048) :
    View.ld (iblk m c 1 t) r0_0 (ix2 a x) = m ((c : Thread nD τ).loc main_arg1) (ix2 (row t a) x) := by
  refine (whole_at _ _).trans ?_
  blk_ext [iblk, V, idx t, row]

/-- Column `b` of the padded weight, the array being at `W`. -/
theorem padded_at (c : Dev nD) (t : Fin cfg0.N) (W : Buf (Elt Ideal) ((c : Thread nD τ).loc main_v3)) (a b : Fin 2048) :
    View.ld (((cfg0.win 2).blk t).view.read (Elt Ideal) W) r0_2 (ix2 a b) = W (ix2 a ⟨b.val, by omega⟩) := by
  refine congrArg W (?_ : ((cfg0.win 2).blk t).view.emb (r0_2.emb (ix2 a b)) = _)
  blk_ext [idx t]

theorem weight_at (c : Dev nD) (t : Fin cfg0.N) (a b : Fin 2048) :
    View.ld (iblk m c 2 t) r0_2 (ix2 a b) = m ((c : Thread nD τ).loc main_arg2) (ix2 a b) :=
  (padded_at c t (V m c main_v3) a b).trans (V_v3 m c a _ b.isLt)

theorem scale0_at (c : Dev nD) (t : Fin cfg0.N) (x : Fin 2048) :
    View.ld (iblk m c 3 t) r0_1 (ix2 0 x) = m ((c : Thread nD τ).loc main_arg3) (ix1 x) := by
  refine (line_at _ _).trans ?_
  refine Eq.trans (b := V m c main_v4 (ix2 0 x)) (by blk_ext [iblk, idx t]) ?_
  rw [V_v4]; rfl

theorem shift0_at (c : Dev nD) (t : Fin cfg0.N) (x : Fin 2048) :
    View.ld (iblk m c 4 t) r0_1 (ix2 0 x) = m ((c : Thread nD τ).loc main_arg4) (ix1 x) := by
  refine (line_at _ _).trans ?_
  refine Eq.trans (b := V m c main_v5 (ix2 0 x)) (by blk_ext [iblk, idx t]) ?_
  rw [V_v5]; rfl

theorem scale1_at (c : Dev nD) (t : Fin cfg0.N) (x : Fin 2048) :
    View.ld (iblk m c 5 t) r0_1 (ix2 0 x) = m ((c : Thread nD τ).loc main_arg5) (ix1 x) := by
  refine (line_at _ _).trans ?_
  refine Eq.trans (b := V m c main_v6 (ix2 0 x)) (by blk_ext [iblk, idx t]) ?_
  rw [V_v6]; rfl

theorem shift1_at (c : Dev nD) (t : Fin cfg0.N) (x : Fin 2048) :
    View.ld (iblk m c 6 t) r0_1 (ix2 0 x) = m ((c : Thread nD τ).loc main_arg6) (ix1 x) := by
  refine (line_at _ _).trans ?_
  refine Eq.trans (b := V m c main_v7 (ix2 0 x)) (by blk_ext [iblk, idx t]) ?_
  rw [V_v7]; rfl

/-! ## What a point leaves -/

/-- The rows before the second normalisation. -/
theorem joined_at (P0 : Vec Ideal S512x2048 .f32) (P1 P2 : Vec Ideal S1x2048 .f32) (P3 : Vec Ideal S512x2048 .bf16)
    (P4 : Vec Ideal S2048x2048 .bf16) (y : S512x2048.Idx) :
    k0_pay2 (F := Ideal) P0 P1 P2 P3 P4 y
      = joined (fun x => P0 (ix2 (y 0) x)) (fun x => P3 (ix2 (y 0) x)) (fun x => P1 (ix2 0 x)) (fun x => P2 (ix2 0 x))
          (fun a b => P4 (ix2 a b)) (y 1) := by
  unfold joined normal
  pointwise [k0_pay2]

/-- The second normalisation, of rows already joined. -/
theorem finished_at (z : Vec Ideal S512x2048 .f32) (P5 P6 : Vec Ideal S1x2048 .f32) (y : S512x2048.Idx) :
    k0_pay1 (F := Ideal) z (k0_pay3 P5) (k0_pay4 P6) (multiReduction .add [1] S512 z 0x00000000#32 reduces_S512x2048_S512 (.inl rfl) rfl) y
      = normal (fun x => z (ix2 (y 0) x)) (fun x => P5 (ix2 0 x)) (fun x => P6 (ix2 0 x)) (y 1) := by
  unfold normal
  pointwise [k0_pay1, k0_pay3, k0_pay4]

/-- The result, as a function of the arguments. -/
def result (c : Dev nD) (r : Fin 8192) (j : Fin 2048) : EReal :=
  normal (joined (fun x => m ((c : Thread nD τ).loc main_arg0) (ix2 r x)) (fun x => m ((c : Thread nD τ).loc main_arg1) (ix2 r x))
      (fun x => m ((c : Thread nD τ).loc main_arg3) (ix1 x)) (fun x => m ((c : Thread nD τ).loc main_arg4) (ix1 x))
      (fun a b => m ((c : Thread nD τ).loc main_arg2) (ix2 a b)))
    (fun x => m ((c : Thread nD τ).loc main_arg5) (ix1 x)) (fun x => m ((c : Thread nD τ).loc main_arg6) (ix1 x)) j

theorem point_at (c : Dev nD) (t : Fin cfg0.N) (y : S512x2048.Idx) :
    out0_7 (F := Ideal) (iblk m c 0 t) (iblk m c 1 t) (iblk m c 2 t) (iblk m c 3 t) (iblk m c 4 t) (iblk m c 5 t) (iblk m c 6 t) y
      = result m c (row t (y 0)) (y 1) := by
  have h0 := rows_at m c t
  have h1 := mixed_at m c t
  have h2 := weight_at m c t
  have h3 := scale0_at m c t
  have h4 := shift0_at m c t
  have h5 := scale1_at m c t
  have h6 := shift1_at m c t
  unfold out0_7
  generalize View.ld (iblk m c 0 t) r0_0 = p0 at h0 ⊢
  generalize View.ld (iblk m c 1 t) r0_0 = p1 at h1 ⊢
  generalize View.ld (iblk m c 2 t) r0_2 = p2 at h2 ⊢
  generalize View.ld (iblk m c 3 t) r0_1 = p3 at h3 ⊢
  generalize View.ld (iblk m c 4 t) r0_1 = p4 at h4 ⊢
  generalize View.ld (iblk m c 5 t) r0_1 = p5 at h5 ⊢
  generalize View.ld (iblk m c 6 t) r0_1 = p6 at h6 ⊢
  rw [View.canon_cons_unit_lit' _ _ _ (fun a => by fin_cases a <;> rfl)]
  refine (finished_at _ _ _ y).trans ?_
  have hj : (fun x => k0_pay2 (F := Ideal) p0 p3 p4 p1 p2 (ix2 (y 0) x)) = fun x => _ := funext fun x => joined_at p0 p3 p4 p1 p2 (ix2 (y 0) x)
  rw [hj]
  have e0 : (fun x => p0 (ix2 (y 0) x)) = _ := funext fun x => h0 (y 0) x
  have e1 : (fun x => p1 (ix2 (y 0) x)) = _ := funext fun x => h1 (y 0) x
  have e2 : (fun a b => p2 (ix2 a b)) = _ := funext fun a => funext fun b => h2 a b
  have e3 : (fun x => p3 (ix2 0 x)) = _ := funext fun x => h3 x
  have e4 : (fun x => p4 (ix2 0 x)) = _ := funext fun x => h4 x
  have e5 : (fun x => p5 (ix2 0 x)) = _ := funext fun x => h5 x
  have e6 : (fun x => p6 (ix2 0 x)) = _ := funext fun x => h6 x
  show normal (joined (fun x => p0 (ix2 (y 0) x)) (fun x => p1 (ix2 (y 0) x)) (fun x => p3 (ix2 0 x)) (fun x => p4 (ix2 0 x)) (fun a b => p2 (ix2 a b)))
    (fun x => p5 (ix2 0 x)) (fun x => p6 (ix2 0 x)) (y 1) = _
  rw [e0, e1, e2, e3, e4, e5, e6]
  rfl

theorem array_at (c : Dev nD) (i : S8192x2048.Idx) :
    (dats m 0 c).arrAt 7 cfg0.N i = result m c (i 0) (i 1) := by
  have h0 : (i 0).val < 8192 := (i 0).isLt
  have h1 : (i 1).val < 2048 := (i 1).isLt
  obtain ⟨t, ht⟩ : ∃ t : Fin cfg0.N, t.val = (i 0).val / 512 := ⟨⟨(i 0).val / 512, by rw [show cfg0.N = 16 from N_0]; omega⟩, rfl⟩
  obtain ⟨a, ha⟩ : ∃ a : Fin 512, a.val = (i 0).val % 512 := ⟨⟨(i 0).val % 512, by omega⟩, rfl⟩
  have e : ((cfg0.win 7).blk t).view.emb (ix2 a (i 1)) = i := by
    blk_ext [idx t]
  have hb := (congrFun (blocks7 m c t (flush0_7 t)) (ix2 a (i 1))).trans (congrFun (flushed7 m c t) (ix2 a (i 1)))
  refine (congrArg ((dats m 0 c).arrAt 7 cfg0.N) e.symm).trans (hb.trans ?_)
  refine (point_at m c t (ix2 a (i 1))).trans (congrArg₂ (result m c) (Fin.ext ?_) rfl)
  show t.val * 512 + a.val = (i 0).val
  omega

end Cert.OutprojIdeal.Mine

end
-- ==== Proof.Outproj.Value.lean ====
module

public import proofs.«01_k».proof.Proof.Outproj.Block
public import proofs.«01_k».proof.Proof.Gen.OutprojRefIdeal.Run
public import proofs.«01_k».proof.Proof.Gen.OutprojRefIdeal.Read

/-!
# The output projection call computes the reference's two normalisations and projection
-/

@[expose] public section

set_option maxRecDepth 16384

noncomputable section

namespace Cert.OutprojIdeal.Mine

open Cert.OutprojIdeal Cert.OutprojIdeal.Gen Cert.OutprojIdeal.Value Idealize.ShloMosaic Idealize.ShloMosaic.TcCoe Idealize.ShloMosaic.Tactic Idealize.SL.Sem
open Cert.OutprojRefIdeal.Read

variable (X : Vec Ideal S8192x2048 .f32) (M : Vec Ideal S8192x2048 .bf16) (W : Vec Ideal S2048x2048 .f32) (g0 b0 g1 b1 : Vec Ideal S2048 .f32)

/-- The reference's first normalisation. -/
theorem ref_normal (i : S8192x2048.Idx) :
    val_main_v23 (F := Ideal) X g0 b0 i = normal (fun x => X (ix2 (i 0) x)) (fun x => g0 (ix1 x)) (fun x => b0 (ix1 x)) (i 1) := by
  obtain ⟨r, j, rfl⟩ : ∃ (r : Fin 8192) (j : Fin 2048), i = ix2 r j := ⟨i 0, i 1, by blk_ext⟩
  unfold normal
  pointwise [val_main_v23, val_main_v22, val_main_v21, val_main_v20, val_main_v19, val_main_v18, val_main_v17, val_main_v16, val_main_v15,
    val_main_v14, val_main_v13, val_main_cst_3, val_main_v12, val_main_v11, val_main_v10, val_main_v9, val_main_cst_2, val_main_v8, val_main_v7,
    val_main_cst_1, val_main_v6, val_main_v5, val_main_v4, val_main_v3, val_main_v2, val_main_cst_0, val_main_v1, val_main_v0, val_main_cst]

/-- The reference's rows before the second normalisation. -/
theorem ref_joined (i : S8192x2048.Idx) :
    val_main_v28 (F := Ideal) X M W g0 b0 i = joined (fun x => X (ix2 (i 0) x)) (fun x => M (ix2 (i 0) x)) (fun x => g0 (ix1 x))
      (fun x => b0 (ix1 x)) (fun a b => W (ix2 a b)) (i 1) := by
  unfold joined
  rw [← ref_normal X g0 b0 i]
  unfold val_main_v28 val_main_v25
  generalize val_main_v23 (F := Ideal) X g0 b0 = z
  pointwise [val_main_v27, val_main_v26, val_main_v24, val_main_cst_4]

/-- The reference's second normalisation. -/
theorem ref_result (i : S8192x2048.Idx) :
    val_main_v52 (F := Ideal) X M W g0 b0 g1 b1 i = normal (joined (fun x => X (ix2 (i 0) x)) (fun x => M (ix2 (i 0) x)) (fun x => g0 (ix1 x))
      (fun x => b0 (ix1 x)) (fun a b => W (ix2 a b))) (fun x => g1 (ix1 x)) (fun x => b1 (ix1 x)) (i 1) := by
  have hz := ref_joined X M W g0 b0
  have e : joined (fun x => X (ix2 (i 0) x)) (fun x => M (ix2 (i 0) x)) (fun x => g0 (ix1 x))
      (fun x => b0 (ix1 x)) (fun a b => W (ix2 a b)) = fun x => val_main_v28 (F := Ideal) X M W g0 b0 (ix2 (i 0) x) := funext fun x => (hz (ix2 (i 0) x)).symm
  rw [e]
  unfold val_main_v52 val_main_v49 val_main_v46 val_main_v45 val_main_v44 val_main_v43 val_main_v41 val_main_v40 val_main_v39 val_main_v37 val_main_v36
    val_main_v35 val_main_v34 val_main_v33 val_main_v32 val_main_v30 val_main_v29
  clear hz e
  generalize val_main_v28 (F := Ideal) X M W g0 b0 = z
  obtain ⟨r, j, rfl⟩ : ∃ (r : Fin 8192) (j : Fin 2048), i = ix2 r j := ⟨i 0, i 1, by blk_ext⟩
  unfold normal
  pointwise [val_main_v51, val_main_v50, val_main_v48, val_main_v47, val_main_v42, val_main_cst_9, val_main_v38, val_main_cst_8, val_main_cst_7,
    val_main_v31, val_main_cst_6, val_main_cst_5]

/-- The two programs leave the same array when they are given the same arguments. -/
theorem same (m : (ℓ : Loc nD τ sig) → Buf (Elt Ideal) ℓ) (c : Dev nD) :
    val_main_v52 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      = (dats m 0 c).arrAt 7 cfg0.N :=
  funext fun i => (ref_result _ _ _ _ _ _ _ i).trans (array_at m c i).symm

end Cert.OutprojIdeal.Mine

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.Gen.OutprojRefIdeal.Read
public import proofs.«01_k».proof.Pre_decays_below_infinity
public import proofs.«01_k».proof.Proof.Ffn.Value
public import proofs.«01_k».proof.Proof.Mix.Same
public import proofs.«01_k».proof.Proof.Outproj.Value
public import Idealize.ShloMosaic.Lib.Claim
public import Idealize.ShloMosaic.Adequacy
public import Idealize.ShloMosaic.Init

@[expose] public section

noncomputable section

namespace Cert.Proof

open Idealize.ShloMosaic Idealize.SL.Sem

/-- The feed-forward call and the reference's feed-forward block leave the same result. -/
theorem algebraic_ffn : letI := Cert.FfnIdeal.Gen.facts; letI := Cert.FfnRefIdeal.Gen.facts; Cert.algebraic_FfnIdeal_FfnRefIdeal := by
  pair_intro
  · run_from Cert.FfnIdeal.Value.run m g
  · run_from Cert.FfnRefIdeal.Value.run m' g'
    obtain ⟨h0, h1, h2, h3, h4, h5⟩ := hagree c
    exact Cert.FfnIdeal.Mine.same m m' c h0 h1 h2 h3 h4 h5

/-- The mixer call and the reference's mixer leave the same three results. -/
theorem algebraic_mix : letI := Cert.KernelIdeal.Gen.facts; letI := Cert.ReferenceIdeal.Gen.facts; letI := Cert.KernelIdeal.Mine.below_facts;
    Cert.algebraic_KernelIdeal_ReferenceIdeal_pre_decays_below_infinity := by
  letI := Cert.KernelIdeal.Gen.facts
  letI := Cert.ReferenceIdeal.Gen.facts
  letI := Cert.KernelIdeal.Mine.below_facts
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m g, ?_⟩
  refine (θ_run _ _ _).mono (fun r h c => ?_) (Cert.ReferenceIdeal.Value.run m' g')
  obtain ⟨h0, h1, h2, h3, h4, h5⟩ := hagree c
  obtain ⟨r0, r1, r2, rest⟩ := h c
  have hA := Cert.KernelIdeal.Mine.below_infinity _ _ _ _ _ _ (hpre c)
  refine ⟨r0.trans ?_, r1.trans ?_, r2.trans ?_, rest⟩
  · rw [Cert.ReferenceIdeal.Read.val_main_v94_eq, h0, h1, h2, h3, h4, h5]
    exact Cert.KernelIdeal.Mine.same_mix m c hA
  · refine (Cert.ReferenceIdeal.Read.val_main_v50_eq _ _ _).trans ?_
    rw [h0, h1, h2]
    exact Cert.KernelIdeal.Mine.same_state m c hA
  · refine (Cert.ReferenceIdeal.Read.val_main_v95_eq _ _).trans ?_
    rw [h1, h3]
    exact Cert.KernelIdeal.Mine.same_kept m c

/-- The output projection call and the reference's projection and normalisations leave the same result. -/
theorem algebraic_outproj : letI := Cert.OutprojIdeal.Gen.facts; letI := Cert.OutprojRefIdeal.Gen.facts; Cert.algebraic_OutprojIdeal_OutprojRefIdeal := by
  letI := Cert.OutprojIdeal.Gen.facts
  letI := Cert.OutprojRefIdeal.Gen.facts
  intro m g m' g' _ hagree
  refine ⟨fun c => (Cert.OutprojIdeal.Gen.dats m 0 c).arrAt 7 Cert.OutprojIdeal.cfg0.N, Cert.OutprojIdeal.Value.run_blocks m g, ?_⟩
  refine (θ_run _ _ _).mono (fun r h c => ?_) (Cert.OutprojRefIdeal.Value.run m' g')
  obtain ⟨h0, h1, h2, h3, h4, h5, h6⟩ := hagree c
  obtain ⟨r0, rest⟩ := h c
  refine ⟨r0.trans ?_, rest⟩
  rw [Cert.OutprojRefIdeal.Read.val_main_v52_eq, h0, h1, h2, h3, h4, h5, h6]
  exact Cert.OutprojIdeal.Mine.same m c

/-- The mixer's reference has no semaphores, so its counters are at zero whatever it does. -/
theorem no_semaphores_mix (s : MemSt Cert.ReferenceIdeal.nD Cert.ReferenceIdeal.τ Cert.ReferenceIdeal.sig (Elt Ideal)) :
    s.sem = fun _ => 0 := sem_eq_zero_of_no_sems (by decide) s

/-- The mixer's reference runs and leaves its arguments as they were. -/
theorem frame_mix_reference : letI := Cert.ReferenceIdeal.Gen.facts; Cert.quiescent_ReferenceIdeal := by
  letI := Cert.ReferenceIdeal.Gen.facts
  intro m ρ _
  hlo_run
  all_goals first | exact no_semaphores_mix _ | simp

/-- Nor has the feed-forward reference. -/
theorem no_semaphores_ffn (s : MemSt Cert.FfnRefIdeal.nD Cert.FfnRefIdeal.τ Cert.FfnRefIdeal.sig (Elt Ideal)) :
    s.sem = fun _ => 0 := sem_eq_zero_of_no_sems (by decide) s

/-- Nor has the output projection's. -/
theorem no_semaphores_outproj (s : MemSt Cert.OutprojRefIdeal.nD Cert.OutprojRefIdeal.τ Cert.OutprojRefIdeal.sig (Elt Ideal)) :
    s.sem = fun _ => 0 := sem_eq_zero_of_no_sems (by decide) s

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Outproj.Gen.facts, Cert.OutprojIdeal.Gen.facts, Cert.OutprojRefIdeal.Gen.facts, Cert.KernelIdeal.Mine.below_facts,
  fun m ρ _ => Cert.Kernel.Gen.frame m ρ,
  fun m ρ _ => Cert.KernelIdeal.Gen.frame m ρ,
  fun m ρ _ => Cert.KernelIdeal.Gen.frame m ρ,
  fun m ρ _ => frame_mix_reference m ρ trivial,
  fun m ρ _ => frame_mix_reference m ρ trivial,
  fun m ρ _ => Cert.Ffn.Gen.frame m ρ,
  fun m ρ _ => Cert.FfnIdeal.Gen.frame m ρ,
  fun m ρ _ => by hlo_run; all_goals first | exact no_semaphores_ffn _ | simp,
  fun m ρ _ => Cert.Outproj.Gen.frame m ρ,
  fun m ρ _ => Cert.OutprojIdeal.Gen.frame m ρ,
  fun m ρ _ => by hlo_run; all_goals first | exact no_semaphores_outproj _ | simp,
  IdealRules.named_const.statement Cert.KernelIdeal.κ "log2e" .f32 0x3FB8AA3B#32 (((Real.log 2)⁻¹ : ℝ) : EReal) rfl,
  algebraic_mix,
  trivial,
  algebraic_ffn,
  trivial,
  algebraic_outproj⟩

end Cert.Proof

end
